-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x2048x4608 : Shape := ⟨3, ![3, 2048, 4608]⟩
abbrev S18x128x36864 : Shape := ⟨3, ![18, 128, 36864]⟩
abbrev S18x64x36864 : Shape := ⟨3, ![18, 64, 36864]⟩
abbrev S18x16x36864 : Shape := ⟨3, ![18, 16, 36864]⟩
abbrev S18x36864 : Shape := ⟨2, ![18, 36864]⟩
abbrev S6144x4608 : Shape := ⟨2, ![6144, 4608]⟩
abbrev S18x1x36864 : Shape := ⟨3, ![18, 1, 36864]⟩
abbrev S6144x36864 : Shape := ⟨2, ![6144, 36864]⟩
abbrev S1024x4608 : Shape := ⟨2, ![1024, 4608]⟩
abbrev S3x128x1024 : Shape := ⟨3, ![3, 128, 1024]⟩
abbrev S3x64x1024 : Shape := ⟨3, ![3, 64, 1024]⟩
abbrev S3x16x1024 : Shape := ⟨3, ![3, 16, 1024]⟩
abbrev S3x1x1024 : Shape := ⟨3, ![3, 1, 1024]⟩
abbrev S1024x1024 : Shape := ⟨2, ![1024, 1024]⟩
abbrev S4608x1024 : Shape := ⟨2, ![4608, 1024]⟩
abbrev S1x128x1024 : Shape := ⟨3, ![1, 128, 1024]⟩
abbrev S128x1024 : Shape := ⟨2, ![128, 1024]⟩
abbrev S1x64x1024 : Shape := ⟨3, ![1, 64, 1024]⟩
abbrev S64x1024 : Shape := ⟨2, ![64, 1024]⟩
abbrev S1x16x1024 : Shape := ⟨3, ![1, 16, 1024]⟩
abbrev S16x1024 : Shape := ⟨2, ![16, 1024]⟩
abbrev S1x1x1024 : Shape := ⟨3, ![1, 1, 1024]⟩
abbrev S1x1024 : Shape := ⟨2, ![1, 1024]⟩
abbrev S32x1024 : Shape := ⟨2, ![32, 1024]⟩
abbrev S3x2048x36864 : Shape := ⟨3, ![3, 2048, 36864]⟩

abbrev nBuf : Space → Nat
  | .hbm => 9
  | .vmem => 14
  | .smem => 0
  | _ => 0

abbrev bufTy : (tb : Table) → Fin (tcTables nBuf tb) → BufTy
  | .hbm, ⟨0, _⟩ => ⟨S3x2048x4608, .bf16⟩
  | .hbm, ⟨1, _⟩ => ⟨S18x128x36864, .i8⟩
  | .hbm, ⟨2, _⟩ => ⟨S18x64x36864, .i8⟩
  | .hbm, ⟨3, _⟩ => ⟨S18x16x36864, .i8⟩
  | .hbm, ⟨4, _⟩ => ⟨S18x36864, .f16⟩
  | .hbm, ⟨5, _⟩ => ⟨S6144x4608, .bf16⟩
  | .hbm, ⟨6, _⟩ => ⟨S18x1x36864, .f16⟩
  | .hbm, ⟨7, _⟩ => ⟨S6144x36864, .bf16⟩
  | .hbm, ⟨8, _⟩ => ⟨S3x2048x36864, .bf16⟩
  | .local _ .vmem, ⟨0, _⟩ => ⟨S1024x4608, .bf16⟩
  | .local _ .vmem, ⟨1, _⟩ => ⟨S1024x4608, .bf16⟩
  | .local _ .vmem, ⟨2, _⟩ => ⟨S3x128x1024, .i8⟩
  | .local _ .vmem, ⟨3, _⟩ => ⟨S3x128x1024, .i8⟩
  | .local _ .vmem, ⟨4, _⟩ => ⟨S3x64x1024, .i8⟩
  | .local _ .vmem, ⟨5, _⟩ => ⟨S3x64x1024, .i8⟩
  | .local _ .vmem, ⟨6, _⟩ => ⟨S3x16x1024, .i8⟩
  | .local _ .vmem, ⟨7, _⟩ => ⟨S3x16x1024, .i8⟩
  | .local _ .vmem, ⟨8, _⟩ => ⟨S3x1x1024, .f16⟩
  | .local _ .vmem, ⟨9, _⟩ => ⟨S3x1x1024, .f16⟩
  | .local _ .vmem, ⟨10, _⟩ => ⟨S1024x1024, .bf16⟩
  | .local _ .vmem, ⟨11, _⟩ => ⟨S1024x1024, .bf16⟩
  | .local _ .vmem, ⟨12, _⟩ => ⟨S4608x1024, .bf16⟩
  | .local _ .vmem, ⟨13, _⟩ => ⟨S4608x1024, .bf16⟩
  | _, _ => ⟨S3x2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![37, 6], ![false, false]⟩

def k0_cond1 (i : grid0.Coords) : BitVec 1 :=
  let arg0 : BitVec 32 := BitVec.ofNat 32 (i 0).val
  let c0_i32_4 : BitVec 32 := 0#32
  let v11 : BitVec 1 := Scalar.cmpi .eq arg0 c0_i32_4
  let v12 : BitVec 32 := Scalar.extui v11
  let c0_i32_5 : BitVec 32 := 0#32
  let v13 : BitVec 1 := Scalar.cmpi .ne v12 c0_i32_5
  v13

def k0_mult1 (i : grid0.Coords) : BitVec 32 :=
  let arg1 : BitVec 32 := BitVec.ofNat 32 (i 1).val
  let c3_i32 : BitVec 32 := 3#32
  let v21 : BitVec 32 := Scalar.muli arg1 c3_i32
  let c0_i32_9 : BitVec 32 := 0#32
  let v22 : BitVec 32 := Scalar.addi v21 c0_i32_9
  let c256_i32 : BitVec 32 := 256#32
  let v23 : BitVec 32 := Scalar.muli v22 c256_i32
  v23
def k0_off1 (i : grid0.Coords) (c0_i32_9 : BitVec 32) (c0_i32_22 : BitVec 32) : Fin 2 → Nat :=
  let arg1 : BitVec 32 := BitVec.ofNat 32 (i 1).val
  let c3_i32 : BitVec 32 := 3#32
  let v21 : BitVec 32 := Scalar.muli arg1 c3_i32
  let v22 : BitVec 32 := Scalar.addi v21 c0_i32_9
  let c256_i32 : BitVec 32 := 256#32
  let v23 : BitVec 32 := Scalar.muli v22 c256_i32
  let v24 : BitVec 32 := v23
  let v61 : BitVec 32 := Scalar.addi v24 c0_i32_22
  let v62 : Index := Scalar.indexCast v61
  let c0_23 : Index := 0#32
  ![v62.toNat, 0]
def k0_mult2 (i : grid0.Coords) : BitVec 32 :=
  let arg1 : BitVec 32 := BitVec.ofNat 32 (i 1).val
  let c3_i32_49 : BitVec 32 := 3#32
  let v250 : BitVec 32 := Scalar.muli arg1 c3_i32_49
  let c1_i32_50 : BitVec 32 := 1#32
  let v251 : BitVec 32 := Scalar.addi v250 c1_i32_50
  let c256_i32_51 : BitVec 32 := 256#32
  let v252 : BitVec 32 := Scalar.muli v251 c256_i32_51
  v252
def k0_mult3 (i : grid0.Coords) : BitVec 32 :=
  let arg1 : BitVec 32 := BitVec.ofNat 32 (i 1).val
  let c3_i32_112 : BitVec 32 := 3#32
  let v479 : BitVec 32 := Scalar.muli arg1 c3_i32_112
  let c2_i32_113 : BitVec 32 := 2#32
  let v480 : BitVec 32 := Scalar.addi v479 c2_i32_113
  let c256_i32_114 : BitVec 32 := 256#32
  let v481 : BitVec 32 := Scalar.muli v480 c256_i32_114
  v481
def k0_cond2 (i : grid0.Coords) : BitVec 1 :=
  let arg0 : BitVec 32 := BitVec.ofNat 32 (i 0).val
  let c0_i32_6 : BitVec 32 := 0#32
  let v14 : BitVec 1 := Scalar.cmpi .sgt arg0 c0_i32_6
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v15 : BitVec 1 := Scalar.andi v14 v10
  let v16 : BitVec 32 := Scalar.extui v15
  let c0_i32_7 : BitVec 32 := 0#32
  let v17 : BitVec 1 := Scalar.cmpi .ne v16 c0_i32_7
  v17

def k0_mult4 (i : grid0.Coords) : BitVec 32 :=
  let arg1 : BitVec 32 := BitVec.ofNat 32 (i 1).val
  let c3_i32 : BitVec 32 := 3#32
  let v21 : BitVec 32 := Scalar.muli arg1 c3_i32
  let c0_i32_9 : BitVec 32 := 0#32
  let v22 : BitVec 32 := Scalar.addi v21 c0_i32_9
  let c256_i32 : BitVec 32 := 256#32
  let v23 : BitVec 32 := Scalar.muli v22 c256_i32
  v23
def k0_off2 (i : grid0.Coords) (c0_i32_9 : BitVec 32) (c0_i32_22 : BitVec 32) : Fin 2 → Nat :=
  let arg1 : BitVec 32 := BitVec.ofNat 32 (i 1).val
  let c3_i32 : BitVec 32 := 3#32
  let v21 : BitVec 32 := Scalar.muli arg1 c3_i32
  let v22 : BitVec 32 := Scalar.addi v21 c0_i32_9
  let c256_i32 : BitVec 32 := 256#32
  let v23 : BitVec 32 := Scalar.muli v22 c256_i32
  let v24 : BitVec 32 := v23
  let v61 : BitVec 32 := Scalar.addi v24 c0_i32_22
  let v62 : Index := Scalar.indexCast v61
  let c0_23 : Index := 0#32
  ![v62.toNat, 0]
def k0_mult5 (i : grid0.Coords) : BitVec 32 :=
  let arg1 : BitVec 32 := BitVec.ofNat 32 (i 1).val
  let c3_i32_49 : BitVec 32 := 3#32
  let v250 : BitVec 32 := Scalar.muli arg1 c3_i32_49
  let c1_i32_50 : BitVec 32 := 1#32
  let v251 : BitVec 32 := Scalar.addi v250 c1_i32_50
  let c256_i32_51 : BitVec 32 := 256#32
  let v252 : BitVec 32 := Scalar.muli v251 c256_i32_51
  v252
def k0_mult6 (i : grid0.Coords) : BitVec 32 :=
  let arg1 : BitVec 32 := BitVec.ofNat 32 (i 1).val
  let c3_i32_112 : BitVec 32 := 3#32
  let v479 : BitVec 32 := Scalar.muli arg1 c3_i32_112
  let c2_i32_113 : BitVec 32 := 2#32
  let v480 : BitVec 32 := Scalar.addi v479 c2_i32_113
  let c256_i32_114 : BitVec 32 := 256#32
  let v481 : BitVec 32 := Scalar.muli v480 c256_i32_114
  v481
def k0_cond3 (i : grid0.Coords) : BitVec 1 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v_true : BitVec 1 := 1#1
  let v18 : BitVec 1 := Scalar.xori v10 v_true
  let v19 : BitVec 32 := Scalar.extui v18
  let c0_i32_8 : BitVec 32 := 0#32
  let v20 : BitVec 1 := Scalar.cmpi .ne v19 c0_i32_8
  v20

def k0_mult7 (i : grid0.Coords) : BitVec 32 :=
  let arg1 : BitVec 32 := BitVec.ofNat 32 (i 1).val
  let c3_i32 : BitVec 32 := 3#32
  let v21 : BitVec 32 := Scalar.muli arg1 c3_i32
  let c0_i32_9 : BitVec 32 := 0#32
  let v22 : BitVec 32 := Scalar.addi v21 c0_i32_9
  let c256_i32 : BitVec 32 := 256#32
  let v23 : BitVec 32 := Scalar.muli v22 c256_i32
  v23
def k0_off3 (i : grid0.Coords) (c0_i32_9 : BitVec 32) (c0_i32_22 : BitVec 32) : Fin 2 → Nat :=
  let arg1 : BitVec 32 := BitVec.ofNat 32 (i 1).val
  let c3_i32 : BitVec 32 := 3#32
  let v21 : BitVec 32 := Scalar.muli arg1 c3_i32
  let v22 : BitVec 32 := Scalar.addi v21 c0_i32_9
  let c256_i32 : BitVec 32 := 256#32
  let v23 : BitVec 32 := Scalar.muli v22 c256_i32
  let v24 : BitVec 32 := v23
  let v61 : BitVec 32 := Scalar.addi v24 c0_i32_22
  let v62 : Index := Scalar.indexCast v61
  let c0_23 : Index := 0#32
  ![v62.toNat, 0]
def k0_mult8 (i : grid0.Coords) : BitVec 32 :=
  let arg1 : BitVec 32 := BitVec.ofNat 32 (i 1).val
  let c3_i32_49 : BitVec 32 := 3#32
  let v250 : BitVec 32 := Scalar.muli arg1 c3_i32_49
  let c1_i32_50 : BitVec 32 := 1#32
  let v251 : BitVec 32 := Scalar.addi v250 c1_i32_50
  let c256_i32_51 : BitVec 32 := 256#32
  let v252 : BitVec 32 := Scalar.muli v251 c256_i32_51
  v252
def k0_mult9 (i : grid0.Coords) : BitVec 32 :=
  let arg1 : BitVec 32 := BitVec.ofNat 32 (i 1).val
  let c3_i32_112 : BitVec 32 := 3#32
  let v479 : BitVec 32 := Scalar.muli arg1 c3_i32_112
  let c2_i32_113 : BitVec 32 := 2#32
  let v480 : BitVec 32 := Scalar.addi v479 c2_i32_113
  let c256_i32_114 : BitVec 32 := 256#32
  let v481 : BitVec 32 := Scalar.muli v480 c256_i32_114
  v481
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.minsi arg0 c35_i32
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.minsi arg0 c35_i32
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.minsi arg0 c35_i32
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.minsi arg0 c35_i32
  let c0_i32 : BitVec 32 := 0#32
  let c0_i32_0 : BitVec 32 := 0#32
  ![arg1.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1024x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x128x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x64x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x16x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1x1024 .f16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S3x2048x4608 : Shape := ⟨3, ![3, 2048, 4608]⟩
abbrev S18x128x36864 : Shape := ⟨3, ![18, 128, 36864]⟩
abbrev S18x64x36864 : Shape := ⟨3, ![18, 64, 36864]⟩
abbrev S18x16x36864 : Shape := ⟨3, ![18, 16, 36864]⟩
abbrev S18x36864 : Shape := ⟨2, ![18, 36864]⟩
abbrev S18x1x36864 : Shape := ⟨3, ![18, 1, 36864]⟩
abbrev S3x2048x18x4x64 : Shape := ⟨5, ![3, 2048, 18, 4, 64]⟩
abbrev S_ : Shape := ⟨0, ![]⟩
abbrev S18x4x36864 : Shape := ⟨3, ![18, 4, 36864]⟩
abbrev S18x4x1x36864 : Shape := ⟨4, ![18, 4, 1, 36864]⟩
abbrev S18x4x16x36864 : Shape := ⟨4, ![18, 4, 16, 36864]⟩
abbrev S3x2048x18x1x64 : Shape := ⟨5, ![3, 2048, 18, 1, 64]⟩
abbrev S3x2048x18x64 : Shape := ⟨4, ![3, 2048, 18, 64]⟩
abbrev S3x2048x36864 : Shape := ⟨3, ![3, 2048, 36864]⟩

abbrev nBuf : Space → Nat
  | .hbm => 133
  | .vmem => 3
  | .smem => 0
  | _ => 0

abbrev hbmTy0_0 (i : Nat) : BufTy := match i % 128 with
  | 0 => ⟨S3x2048x4608, .bf16⟩
  | 1 => ⟨S18x128x36864, .i8⟩
  | 2 => ⟨S18x64x36864, .i8⟩
  | 3 => ⟨S18x16x36864, .i8⟩
  | 4 => ⟨S18x36864, .f16⟩
  | 5 => ⟨S18x16x36864, .bf16⟩
  | 6 => ⟨S18x128x36864, .i32⟩
  | 7 => ⟨S18x64x36864, .i32⟩
  | 8 => ⟨S3x2048x18x4x64, .bf16⟩
  | 9 => ⟨S18x64x36864, .i32⟩
  | 10 => ⟨S_, .i32⟩
  | 11 => ⟨S18x64x36864, .i32⟩
  | 12 => ⟨S18x64x36864, .i32⟩
  | 13 => ⟨S_, .i32⟩
  | 14 => ⟨S18x64x36864, .i32⟩
  | 15 => ⟨S18x64x36864, .i32⟩
  | 16 => ⟨S_, .i32⟩
  | 17 => ⟨S18x64x36864, .i32⟩
  | 18 => ⟨S18x64x36864, .i32⟩
  | 19 => ⟨S_, .i32⟩
  | 20 => ⟨S18x64x36864, .i32⟩
  | 21 => ⟨S18x64x36864, .i32⟩
  | 22 => ⟨S_, .i32⟩
  | 23 => ⟨S18x64x36864, .i32⟩
  | 24 => ⟨S18x64x36864, .i32⟩
  | 25 => ⟨S18x64x36864, .i32⟩
  | 26 => ⟨S18x64x36864, .bf16⟩
  | 27 => ⟨S_, .bf16⟩
  | 28 => ⟨S18x64x36864, .bf16⟩
  | 29 => ⟨S18x64x36864, .bf16⟩
  | 30 => ⟨S18x4x36864, .bf16⟩
  | 31 => ⟨S18x4x1x36864, .bf16⟩
  | 32 => ⟨S18x4x16x36864, .bf16⟩
  | 33 => ⟨S18x4x16x36864, .bf16⟩
  | 34 => ⟨S18x4x16x36864, .bf16⟩
  | 35 => ⟨S18x64x36864, .bf16⟩
  | 36 => ⟨S3x2048x18x1x64, .bf16⟩
  | 37 => ⟨S3x2048x18x64, .bf16⟩
  | 38 => ⟨S3x2048x36864, .f32⟩
  | 39 => ⟨S18x64x36864, .i32⟩
  | 40 => ⟨S_, .i32⟩
  | 41 => ⟨S18x64x36864, .i32⟩
  | 42 => ⟨S18x64x36864, .i32⟩
  | 43 => ⟨S_, .i32⟩
  | 44 => ⟨S18x64x36864, .i32⟩
  | 45 => ⟨S18x64x36864, .i32⟩
  | 46 => ⟨S_, .i32⟩
  | 47 => ⟨S18x64x36864, .i32⟩
  | 48 => ⟨S18x64x36864, .i32⟩
  | 49 => ⟨S_, .i32⟩
  | 50 => ⟨S18x64x36864, .i32⟩
  | 51 => ⟨S18x64x36864, .i32⟩
  | 52 => ⟨S_, .i32⟩
  | 53 => ⟨S18x64x36864, .i32⟩
  | 54 => ⟨S18x64x36864, .i32⟩
  | 55 => ⟨S18x64x36864, .i32⟩
  | 56 => ⟨S18x64x36864, .bf16⟩
  | 57 => ⟨S_, .bf16⟩
  | 58 => ⟨S18x64x36864, .bf16⟩
  | 59 => ⟨S18x64x36864, .bf16⟩
  | 60 => ⟨S18x4x36864, .bf16⟩
  | 61 => ⟨S18x4x1x36864, .bf16⟩
  | 62 => ⟨S18x4x16x36864, .bf16⟩
  | 63 => ⟨S18x4x16x36864, .bf16⟩
  | 64 => ⟨S18x4x16x36864, .bf16⟩
  | 65 => ⟨S18x64x36864, .bf16⟩
  | 66 => ⟨S3x2048x18x1x64, .bf16⟩
  | 67 => ⟨S3x2048x18x64, .bf16⟩
  | 68 => ⟨S3x2048x36864, .f32⟩
  | 69 => ⟨S3x2048x36864, .f32⟩
  | 70 => ⟨S18x64x36864, .i32⟩
  | 71 => ⟨S_, .i32⟩
  | 72 => ⟨S18x64x36864, .i32⟩
  | 73 => ⟨S18x64x36864, .i32⟩
  | 74 => ⟨S_, .i32⟩
  | 75 => ⟨S18x64x36864, .i32⟩
  | 76 => ⟨S18x64x36864, .i32⟩
  | 77 => ⟨S_, .i32⟩
  | 78 => ⟨S18x64x36864, .i32⟩
  | 79 => ⟨S18x64x36864, .i32⟩
  | 80 => ⟨S_, .i32⟩
  | 81 => ⟨S18x64x36864, .i32⟩
  | 82 => ⟨S18x64x36864, .i32⟩
  | 83 => ⟨S_, .i32⟩
  | 84 => ⟨S18x64x36864, .i32⟩
  | 85 => ⟨S18x64x36864, .i32⟩
  | 86 => ⟨S18x64x36864, .i32⟩
  | 87 => ⟨S18x64x36864, .bf16⟩
  | 88 => ⟨S_, .bf16⟩
  | 89 => ⟨S18x64x36864, .bf16⟩
  | 90 => ⟨S18x64x36864, .bf16⟩
  | 91 => ⟨S18x4x36864, .bf16⟩
  | 92 => ⟨S18x4x1x36864, .bf16⟩
  | 93 => ⟨S18x4x16x36864, .bf16⟩
  | 94 => ⟨S18x4x16x36864, .bf16⟩
  | 95 => ⟨S18x4x16x36864, .bf16⟩
  | 96 => ⟨S18x64x36864, .bf16⟩
  | 97 => ⟨S3x2048x18x1x64, .bf16⟩
  | 98 => ⟨S3x2048x18x64, .bf16⟩
  | 99 => ⟨S3x2048x36864, .f32⟩
  | 100 => ⟨S3x2048x36864, .f32⟩
  | 101 => ⟨S18x64x36864, .i32⟩
  | 102 => ⟨S_, .i32⟩
  | 103 => ⟨S18x64x36864, .i32⟩
  | 104 => ⟨S18x64x36864, .i32⟩
  | 105 => ⟨S_, .i32⟩
  | 106 => ⟨S18x64x36864, .i32⟩
  | 107 => ⟨S18x64x36864, .i32⟩
  | 108 => ⟨S_, .i32⟩
  | 109 => ⟨S18x64x36864, .i32⟩
  | 110 => ⟨S18x64x36864, .i32⟩
  | 111 => ⟨S_, .i32⟩
  | 112 => ⟨S18x64x36864, .i32⟩
  | 113 => ⟨S18x64x36864, .i32⟩
  | 114 => ⟨S_, .i32⟩
  | 115 => ⟨S18x64x36864, .i32⟩
  | 116 => ⟨S18x64x36864, .i32⟩
  | 117 => ⟨S18x64x36864, .i32⟩
  | 118 => ⟨S18x64x36864, .bf16⟩
  | 119 => ⟨S_, .bf16⟩
  | 120 => ⟨S18x64x36864, .bf16⟩
  | 121 => ⟨S18x64x36864, .bf16⟩
  | 122 => ⟨S18x4x36864, .bf16⟩
  | 123 => ⟨S18x4x1x36864, .bf16⟩
  | 124 => ⟨S18x4x16x36864, .bf16⟩
  | 125 => ⟨S18x4x16x36864, .bf16⟩
  | 126 => ⟨S18x4x16x36864, .bf16⟩
  | 127 => ⟨S18x64x36864, .bf16⟩
  | _ => ⟨S3x2048x4608, .bf16⟩

abbrev hbmTy0_1 (i : Nat) : BufTy := match i % 128 with
  | 0 => ⟨S3x2048x18x1x64, .bf16⟩
  | 1 => ⟨S3x2048x18x64, .bf16⟩
  | 2 => ⟨S3x2048x36864, .f32⟩
  | 3 => ⟨S3x2048x36864, .f32⟩
  | 4 => ⟨S3x2048x36864, .bf16⟩
  | _ => ⟨S3x2048x4608, .bf16⟩

abbrev hbmTy (i : Nat) : BufTy := match i / 128 with
  | 0 => hbmTy0_0 i
  | 1 => hbmTy0_1 i
  | _ => ⟨S3x2048x4608, .bf16⟩

abbrev bufTy : (tb : Table) → Fin (tcTables nBuf tb) → BufTy
  | .hbm, ⟨i, _⟩ => hbmTy i
  | .local _ .vmem, ⟨0, _⟩ => ⟨S18x16x36864, .i8⟩
  | .local _ .vmem, ⟨1, _⟩ => ⟨S18x36864, .f16⟩
  | .local _ .vmem, ⟨2, _⟩ => ⟨S18x16x36864, .bf16⟩
  | _, _ => ⟨S3x2048x4608, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_c_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_10 : Ref sig .tc := ⟨.hbm, 71, rfl⟩
abbrev main_v54 : Ref sig .tc := ⟨.hbm, 72, rfl⟩
abbrev main_v55 : Ref sig .tc := ⟨.hbm, 73, rfl⟩
abbrev main_c_11 : Ref sig .tc := ⟨.hbm, 74, rfl⟩
abbrev main_v56 : Ref sig .tc := ⟨.hbm, 75, rfl⟩
abbrev main_v57 : Ref sig .tc := ⟨.hbm, 76, rfl⟩
abbrev main_c_12 : Ref sig .tc := ⟨.hbm, 77, rfl⟩
abbrev main_v58 : Ref sig .tc := ⟨.hbm, 78, rfl⟩
abbrev main_v59 : Ref sig .tc := ⟨.hbm, 79, rfl⟩
abbrev main_c_13 : Ref sig .tc := ⟨.hbm, 80, rfl⟩
abbrev main_v60 : Ref sig .tc := ⟨.hbm, 81, rfl⟩
abbrev main_v61 : Ref sig .tc := ⟨.hbm, 82, rfl⟩
abbrev main_c_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_15 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_c_16 : Ref sig .tc := ⟨.hbm, 102, rfl⟩
abbrev main_v79 : Ref sig .tc := ⟨.hbm, 103, rfl⟩
abbrev main_v80 : Ref sig .tc := ⟨.hbm, 104, rfl⟩
abbrev main_c_17 : Ref sig .tc := ⟨.hbm, 105, rfl⟩
abbrev main_v81 : Ref sig .tc := ⟨.hbm, 106, rfl⟩
abbrev main_v82 : Ref sig .tc := ⟨.hbm, 107, rfl⟩
abbrev main_c_18 : Ref sig .tc := ⟨.hbm, 108, rfl⟩
abbrev main_v83 : Ref sig .tc := ⟨.hbm, 109, rfl⟩
abbrev main_v84 : Ref sig .tc := ⟨.hbm, 110, rfl⟩
abbrev main_c_19 : Ref sig .tc := ⟨.hbm, 111, rfl⟩
abbrev main_v85 : Ref sig .tc := ⟨.hbm, 112, rfl⟩
abbrev main_v86 : Ref sig .tc := ⟨.hbm, 113, rfl⟩
abbrev main_c_20 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_21 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S18x16x36864 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18x36864 .f16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18x16x36864 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Dequant.lean ====
/-
  WHAT ONE GRID POINT DECODES. At a point the body reads three super-blocks of 256 weights by 1024 columns in their packed
  planes (low halves `ql`, high quarters `qh`, sub-block scales `sc`, super-block scale `d`) and stores them, sixteen rows at
  a time, as 48 tiles of a scratch buffer. `tile` names the 16x1024 tile of sub-block `j` in terms of the planes, the same for all
  three branches of the body, so that what a tile holds is worked out once.
-/
module

public import proofs.«01_k».proof.Proof.Gen.KernelIdeal.Skeleton
public import Idealize.ShloMosaic.Lib.Pipeline.Frame
public import Idealize.ShloMosaic.Lib.ValueIdxCore
public import Idealize.ShloMosaic.Lib.WritesUnit
public import Idealize.ShloMosaic.Lib.WholeRead

@[expose] public section

noncomputable section

namespace Cert.Proof

open Idealize.ShloMosaic Cert.KernelIdeal Cert.KernelIdeal.Gen

variable {F : FTy → Type} [FloatOps F]

/-- Row `r` of sixteen is a slice of one row. -/
theorem slices_row (r : Fin 16) : S16x1024.Slices ![r.val, 0] S1x1024 :=
  ⟨rfl, fun a => match a with
    | ⟨0, _⟩ => by have := r.isLt; show r.val + 1 ≤ 16; omega
    | ⟨1, _⟩ => by show 0 + 1024 ≤ 1024; omega⟩

/-- Rows `16 b … 16 b + 15` of sixty-four are a slice of sixteen rows. -/
theorem slices_sub (b : Fin 4) : S64x1024.Slices ![16 * b.val, 0] S16x1024 :=
  ⟨rfl, fun a => match a with
    | ⟨0, _⟩ => by have := b.isLt; show 16 * b.val + 16 ≤ 64; omega
    | ⟨1, _⟩ => by show 0 + 1024 ≤ 1024; omega⟩

/-- Half `g` of thirty-two rows is a slice of sixteen rows. -/
theorem slices_half (g : Fin 2) : S32x1024.Slices ![16 * g.val, 0] S16x1024 :=
  ⟨rfl, fun a => match a with
    | ⟨0, _⟩ => by have := g.isLt; show 16 * g.val + 16 ≤ 32; omega
    | ⟨1, _⟩ => by show 0 + 1024 ≤ 1024; omega⟩

/-- The low plane's words (four bytes of a column each) of field `k`'s half, the field's nibble moved to bits 2–5. -/
def loWords (k : Fin 4) (qlw : IVec S32x1024 32) : IVec S16x1024 32 :=
  let half := extractStridedSlice S16x1024 ![16 * (k.val % 2), 0] qlw (slices_half ⟨k.val % 2, Nat.mod_lt _ (by decide)⟩)
  match k with
  | 0 | 1 => shli half (broadcast S16x1024 2#32)
  | 2 | 3 => shrui half (broadcast S16x1024 2#32)

/-- The high plane's words, field `k`'s two bits moved to bits 6–7. -/
def hiWords (k : Fin 4) (qhw : IVec S16x1024 32) : IVec S16x1024 32 :=
  match k with
  | 0 => shli qhw (broadcast S16x1024 6#32)
  | 1 => shli qhw (broadcast S16x1024 4#32)
  | 2 => shli qhw (broadcast S16x1024 2#32)
  | 3 => qhw

/-- Field `k`'s 64 rows of codes: the two planes' bits joined, each byte read as a signed integer (four times the code). -/
def codes (k : Fin 4) (qlw : IVec S32x1024 32) (qhw : IVec S16x1024 32) : FVec F S64x1024 .bf16 :=
  sitofp .bf16 (bitcast S64x1024 8 (ori (andi (loWords k qlw) (broadcast S16x1024 1010580540#32))
    (andi (hiWords k qhw) (broadcast S16x1024 3233857728#32))) bitcasts_S16x1024_w32_S64x1024_w8)

/-- Sixteen rows of codes times their sub-block's scale, row `r` of `s`. -/
def scaled (r : Fin 16) (s : FVec F S16x1024 .bf16) (v : FVec F S64x1024 .bf16) : FVec F S16x1024 .bf16 :=
  shapeCast S16x1024 (mulf
    (extractStridedSlice S16x1024 ![16 * (r.val % 4), 0] v (slices_sub ⟨r.val % 4, Nat.mod_lt _ (by decide)⟩))
    (broadcastTo S16x1024 (shapeCast S1x1024 (extractStridedSlice S1x1024 ![r.val, 0] s (slices_row r)) shapeCasts_S1x1024_S1x1024)
      broadcasts_S1x1024_S16x1024)) shapeCasts_S16x1024_S16x1024

/-- Sub-block `r` of one super-block, from the super-block's packed planes. -/
def tile1 (ql : Vec F S1x128x1024 .i8) (qh : Vec F S1x64x1024 .i8) (sc : Vec F S1x16x1024 .i8) (d : Vec F S1x1x1024 .f16)
    (r : Fin 16) : FVec F S16x1024 .bf16 :=
  scaled r (k0_pay9 sc d) (codes ⟨r.val / 4, by have := r.isLt; omega⟩ (k0_pay10 ql) (k0_pay11 qh))

/-- The 48 tiles of a point, sub-block `j % 16` of super-block `j / 16`. -/
def tile (ql : Fin 3 → Vec F S1x128x1024 .i8) (qh : Fin 3 → Vec F S1x64x1024 .i8) (sc : Fin 3 → Vec F S1x16x1024 .i8)
    (d : Fin 3 → Vec F S1x1x1024 .f16) (j : Fin 48) : FVec F S16x1024 .bf16 :=
  tile1 (ql ⟨j.val / 16, by have := j.isLt; omega⟩) (qh ⟨j.val / 16, by have := j.isLt; omega⟩)
    (sc ⟨j.val / 16, by have := j.isLt; omega⟩) (d ⟨j.val / 16, by have := j.isLt; omega⟩) ⟨j.val % 16, Nat.mod_lt _ (by decide)⟩

/-! ## The super-blocks of a staged block -/

/-- Super-block `g` of three is a rectangle of each staged plane. -/
theorem inb_ql (g : Fin 3) : ∀ a, (![g.val, 0, 0] : Fin 3 → ℕ) a + S1x128x1024.size a ≤ S3x128x1024.size a := by
  revert g; decide
@[inherit_doc inb_ql] theorem inb_qh (g : Fin 3) : ∀ a, (![g.val, 0, 0] : Fin 3 → ℕ) a + S1x64x1024.size a ≤ S3x64x1024.size a := by
  revert g; decide
@[inherit_doc inb_ql] theorem inb_sc (g : Fin 3) : ∀ a, (![g.val, 0, 0] : Fin 3 → ℕ) a + S1x16x1024.size a ≤ S3x16x1024.size a := by
  revert g; decide
@[inherit_doc inb_ql] theorem inb_d (g : Fin 3) : ∀ a, (![g.val, 0, 0] : Fin 3 → ℕ) a + S1x1x1024.size a ≤ S3x1x1024.size a := by
  revert g; decide

/-- Super-block `g` of the low plane's staged block; -/
def sbQl (x : Vec F S3x128x1024 .i8) (g : Fin 3) : Vec F S1x128x1024 .i8 :=
  fun y => x ((Rect.unit (s := S3x128x1024) ![g.val, 0, 0] S1x128x1024.size (inb_ql g)).toLoadRect.idx y)
/-- of the high plane's; -/
def sbQh (x : Vec F S3x64x1024 .i8) (g : Fin 3) : Vec F S1x64x1024 .i8 :=
  fun y => x ((Rect.unit (s := S3x64x1024) ![g.val, 0, 0] S1x64x1024.size (inb_qh g)).toLoadRect.idx y)
/-- of the sub-block scales'; -/
def sbSc (x : Vec F S3x16x1024 .i8) (g : Fin 3) : Vec F S1x16x1024 .i8 :=
  fun y => x ((Rect.unit (s := S3x16x1024) ![g.val, 0, 0] S1x16x1024.size (inb_sc g)).toLoadRect.idx y)
/-- of the super-block scales'. -/
def sbD (x : Vec F S3x1x1024 .f16) (g : Fin 3) : Vec F S1x1x1024 .f16 :=
  fun y => x ((Rect.unit (s := S3x1x1024) ![g.val, 0, 0] S1x1x1024.size (inb_d g)).toLoadRect.idx y)

/-- The 48 tiles of a point from the four staged blocks. -/
def tiles (x1 : Vec F S3x128x1024 .i8) (x2 : Vec F S3x64x1024 .i8) (x3 : Vec F S3x16x1024 .i8) (x4 : Vec F S3x1x1024 .f16)
    (j : Fin 48) : FVec F S16x1024 .bf16 :=
  tile (sbQl x1) (sbQh x2) (sbSc x3) (sbD x4) j

/-! ## The stores of a point -/

/-- Tile `j` of grid point `i` goes to sixteen rows of the scratch from row `768 i₁ + 16 j`. -/
def tileOff (i : grid0.Coords) (j : Fin 48) : Fin 2 → ℕ := ![768 * (i 1).val + 16 * j.val, 0]

theorem tileOff_inb (i : grid0.Coords) (j : Fin 48) : ∀ a, tileOff i j a + S16x1024.size a ≤ S4608x1024.size a :=
  Fin.forall_fin_two.mpr ⟨by
    have hi : (i 1).val < 6 := (i 1).isLt
    have := j.isLt
    show 768 * (i 1).val + 16 * j.val + 16 ≤ 4608
    omega, by show 0 + 1024 ≤ 1024; omega⟩

/-- The scratch after a point's stores over contents `w`: rows `[768 i₁, 768 i₁ + 768)` hold the 48 tiles `T`, the others what
    they held. -/
def stored (i : grid0.Coords) (T : Fin 48 → FVec F S16x1024 .bf16) (w : Vec F S4608x1024 .bf16) : Vec F S4608x1024 .bf16 := fun y =>
  if h : 768 * (i 1).val ≤ (y 0).val ∧ (y 0).val < 768 * (i 1).val + 768 then
    T ⟨((y 0).val - 768 * (i 1).val) / 16, by omega⟩
      (ValueIdx.ix2 (⟨((y 0).val - 768 * (i 1).val) % 16, Nat.mod_lt _ (by decide)⟩ : Fin 16) (y 1))
  else w y

/-- Reading the 48 stores: the list of stores newest first, at offsets equal to `tileOff`, leaves `stored`. -/
theorem read_stores (M : Memref sig .tc .vmem S4608x1024 .bf16) (hM : M.IsWhole) (i : grid0.Coords) (w : Vec F S4608x1024 .bf16)
    (T : Fin 48 → FVec F S16x1024 .bf16) (off : Fin 48 → Fin 2 → ℕ) (hoff : ∀ j, off j = tileOff i j)
    (inb : ∀ j a, off j a + S16x1024.size a ≤ S4608x1024.size a) :
    M.view.read (Elt F) (M.view.writes (Elt F) (hM.unread w)
      (View.tilePieces (s := S4608x1024) (e := .bf16) (Val := Elt F) S16x1024.size off inb T 48 (le_refl 48))) = stored i T w := by
  funext y
  have hy : (y 0).val < 4608 := (y 0).isLt
  have hi : (i 1).val < 6 := (i 1).isLt
  unfold stored
  split
  · next h =>
    refine View.read_tilePieces M.view (hM.unread w) S16x1024.size off inb T 48 (le_refl 48) y
      ⟨((y 0).val - 768 * (i 1).val) / 16, by omega⟩ (by show ((y 0).val - 768 * (i 1).val) / 16 < 48; omega) _ ?_ (0 : Fin 2) ?_
    · intro a
      rw [hoff]
      match a with
      | ⟨0, _⟩ =>
        show (y 0).val = (768 * (i 1).val + 16 * (((y 0).val - 768 * (i 1).val) / 16)) + ((y 0).val - 768 * (i 1).val) % 16
        omega
      | ⟨1, _⟩ => show (y 1).val = 0 + (y 1).val; omega
    · intro j hj
      rw [hoff]
      have hne : j.val ≠ ((y 0).val - 768 * (i 1).val) / 16 := fun e => hj (Fin.ext e)
      show (y 0).val < 768 * (i 1).val + 16 * j.val ∨ (768 * (i 1).val + 16 * j.val) + 16 ≤ (y 0).val
      omega
  · next h =>
    rw [View.read_tilePieces_miss M.view (hM.unread w) S16x1024.size off inb T 48 (le_refl 48) y (0 : Fin 2), hM.read_unread]
    intro j _
    rw [hoff]
    have := j.isLt
    show (y 0).val < 768 * (i 1).val + 16 * j.val ∨ (768 * (i 1).val + 16 * j.val) + 16 ≤ (y 0).val
    omega

/-- One store of a whole 1024x1024 block leaves the block. -/
theorem read_store_whole (M : Memref sig .tc .vmem S1024x1024 .bf16) (f : M.view.ty.Contents (Elt F))
    (inb : ∀ a, (![0, 0] : Fin 2 → ℕ) a + S1024x1024.size a ≤ S1024x1024.size a) (v : FVec F S1024x1024 .bf16) :
    M.view.read (Elt F) (M.view.writes (Elt F) f
      [(⟨Rect.unit (s := S1024x1024) ![0, 0] S1024x1024.size inb, v⟩ : View.Piece (Elt F) S1024x1024 .bf16)]) = v := by
  funext y
  exact View.read_writes_cons_unit_of_mem M.view f inb v [] y y rfl fun a => by
    match a with
    | ⟨0, _⟩ => exact (Nat.zero_add _).symm
    | ⟨1, _⟩ => exact (Nat.zero_add _).symm

/-- Tile `j`'s rows, counted by super-block and sub-block. -/
theorem tileOff_split (i : grid0.Coords) (j : Fin 48) :
    ![768 * (i 1).val + 256 * (j.val / 16) + 16 * (j.val % 16), 0] = tileOff i j := by
  have e : 768 * (i 1).val + 256 * (j.val / 16) + 16 * (j.val % 16) = 768 * (i 1).val + 16 * j.val := by omega
  rw [e]; rfl

/-- The tiles over what the body loads from whole staging buffers are the tiles of the buffers' contents. -/
theorem tile_read (arg3 : Memref sig .tc .vmem S3x128x1024 .i8) (harg3 : arg3.IsWhole) (arg4 : Memref sig .tc .vmem S3x64x1024 .i8)
    (harg4 : arg4.IsWhole) (arg5 : Memref sig .tc .vmem S3x16x1024 .i8) (harg5 : arg5.IsWhole)
    (arg6 : Memref sig .tc .vmem S3x1x1024 .f16) (harg6 : arg6.IsWhole)
    (x1 : Vec F S3x128x1024 .i8) (x2 : Vec F S3x64x1024 .i8) (x3 : Vec F S3x16x1024 .i8) (x4 : Vec F S3x1x1024 .f16) :
    tile (fun g => View.readAt (Elt F) arg3.view (Rect.unit (s := S3x128x1024) ![g.val, 0, 0] S1x128x1024.size (inb_ql g)).toLoadRect (harg3.unread x1))
      (fun g => View.readAt (Elt F) arg4.view (Rect.unit (s := S3x64x1024) ![g.val, 0, 0] S1x64x1024.size (inb_qh g)).toLoadRect (harg4.unread x2))
      (fun g => View.readAt (Elt F) arg5.view (Rect.unit (s := S3x16x1024) ![g.val, 0, 0] S1x16x1024.size (inb_sc g)).toLoadRect (harg5.unread x3))
      (fun g => View.readAt (Elt F) arg6.view (Rect.unit (s := S3x1x1024) ![g.val, 0, 0] S1x1x1024.size (inb_d g)).toLoadRect (harg6.unread x4))
      = tiles x1 x2 x3 x4 := by
  have e1 : (fun g : Fin 3 => View.readAt (Elt F) arg3.view (Rect.unit (s := S3x128x1024) ![g.val, 0, 0] S1x128x1024.size (inb_ql g)).toLoadRect (harg3.unread x1)) = sbQl x1 :=
    funext fun g => funext fun y => harg3.readAt_unread x1 _ y
  have e2 : (fun g : Fin 3 => View.readAt (Elt F) arg4.view (Rect.unit (s := S3x64x1024) ![g.val, 0, 0] S1x64x1024.size (inb_qh g)).toLoadRect (harg4.unread x2)) = sbQh x2 :=
    funext fun g => funext fun y => harg4.readAt_unread x2 _ y
  have e3 : (fun g : Fin 3 => View.readAt (Elt F) arg5.view (Rect.unit (s := S3x16x1024) ![g.val, 0, 0] S1x16x1024.size (inb_sc g)).toLoadRect (harg5.unread x3)) = sbSc x3 :=
    funext fun g => funext fun y => harg5.readAt_unread x3 _ y
  have e4 : (fun g : Fin 3 => View.readAt (Elt F) arg6.view (Rect.unit (s := S3x1x1024) ![g.val, 0, 0] S1x1x1024.size (inb_d g)).toLoadRect (harg6.unread x4)) = sbD x4 :=
    funext fun g => funext fun y => harg6.readAt_unread x4 _ y
  rw [e1, e2, e3, e4]; rfl

/-- One output block: a block of rows of `x` times the whole scratch, in f32, rounded to bf16. -/
def product (x : Vec F S1024x4608 .bf16) (w : Vec F S4608x1024 .bf16) : FVec F S1024x1024 .bf16 := k0_pay5 x w

/-- The product over what the body loads from a whole staging buffer and a whole scratch is the product of their contents. -/
theorem product_read (arg2 : Memref sig .tc .vmem S1024x4608 .bf16) (harg2 : arg2.IsWhole) (M : Memref sig .tc .vmem S4608x1024 .bf16)
    (hM : M.IsWhole) (x : Vec F S1024x4608 .bf16) (w : Vec F S4608x1024 .bf16) :
    product (View.readAt (Elt F) arg2.view (Rect.unit (s := S1024x4608) ![0, 0] S1024x4608.size inb_S1024x4608_S1024x4608_0_0).toLoadRect (harg2.unread x))
      (View.readAt (Elt F) M.view (Rect.unit (s := S4608x1024) ![0, 0] S4608x1024.size inb_S4608x1024_S4608x1024_0_0).toLoadRect (hM.unread w))
      = product x w := by
  have e1 : View.readAt (Elt F) arg2.view (Rect.unit (s := S1024x4608) ![0, 0] S1024x4608.size inb_S1024x4608_S1024x4608_0_0).toLoadRect (harg2.unread x) = x :=
    funext fun y => (harg2.readAt_unread x _ y).trans (congrArg x (funext fun a => Fin.ext (by
      match a with
      | ⟨0, _⟩ => show 0 + 1 * (y 0).val = (y 0).val; omega
      | ⟨1, _⟩ => show 0 + 1 * (y 1).val = (y 1).val; omega)))
  have e2 : View.readAt (Elt F) M.view (Rect.unit (s := S4608x1024) ![0, 0] S4608x1024.size inb_S4608x1024_S4608x1024_0_0).toLoadRect (hM.unread w) = w :=
    funext fun y => (hM.readAt_unread w _ y).trans (congrArg w (funext fun a => Fin.ext (by
      match a with
      | ⟨0, _⟩ => show 0 + 1 * (y 0).val = (y 0).val; omega
      | ⟨1, _⟩ => show 0 + 1 * (y 1).val = (y 1).val; omega)))
  rw [e1, e2]

end Cert.Proof

end
-- ==== Proof.Sweep.lean ====
/-
  WHAT THE TWO SCRATCH BUFFERS HOLD, POINT BY POINT. The grid is 37 x 6: point `t` has first coordinate `t / 6` and second
  `t % 6`. Through the six points of first coordinate `j` the weights of column tile `j` are decoded, 768 rows a point, into the
  first scratch when `j` is even and the second when it is odd, while the other scratch still holds the whole of column tile
  `j - 1`.
-/
module

public import proofs.«01_k».proof.Proof.Dequant
public import proofs.«01_k».proof.Proof.Gen.KernelIdeal.Frame

@[expose] public section

noncomputable section

namespace Cert.Proof

open Cert.KernelIdeal Cert.KernelIdeal.Gen
open Idealize.ShloMosaic

variable {F : FTy → Type} [FloatOps F] (m : (ℓ : Loc nD τ sig) → Buf (Elt F) ℓ) (c : Dev nD)

/-- The point's coordinates. -/
theorem coord0 (t : Fin cfg0.N) : (grid0.coords t 0).val = t.val / 6 := by
  have ht : t.val < 222 := Nat.lt_of_lt_of_eq t.isLt N_0
  have e : (grid0.coords t 0).val = t.val / 6 % 37 := Pipeline.Grid.coords_val t 0 (by decide) rfl
  omega
@[inherit_doc coord0] theorem coord1 (t : Fin cfg0.N) : (grid0.coords t 1).val = t.val % 6 := by
  have e : (grid0.coords t 1).val = t.val / 1 % 6 := Pipeline.Grid.coords_val t 1 (by decide) rfl
  omega

/-- The body's three branches, over the points: the first for first coordinate zero, -/
theorem cond1_iff : ∀ t : Fin cfg0.N, k0_cond1 (grid0.coords t) = 1#1 ↔ t.val / 6 = 0 :=
  (by decide +kernel : ∀ t : Fin grid0.N, k0_cond1 (grid0.coords t) = 1#1 ↔ t.val / 6 = 0)
/-- the second for even positive first coordinates, -/
theorem cond2_iff : ∀ t : Fin cfg0.N, k0_cond2 (grid0.coords t) = 1#1 ↔ (¬ t.val / 6 = 0 ∧ t.val / 6 % 2 = 0) :=
  (by decide +kernel : ∀ t : Fin grid0.N, k0_cond2 (grid0.coords t) = 1#1 ↔ (¬ t.val / 6 = 0 ∧ t.val / 6 % 2 = 0))
/-- the third for odd ones. -/
theorem cond3_iff : ∀ t : Fin cfg0.N, k0_cond3 (grid0.coords t) = 1#1 ↔ t.val / 6 % 2 = 1 :=
  (by decide +kernel : ∀ t : Fin grid0.N, k0_cond3 (grid0.coords t) = 1#1 ↔ t.val / 6 % 2 = 1)

/-- The grid's point number `n` (the last one past the end). -/
def pointOf (n : ℕ) : Fin cfg0.N := ⟨min n 221, by show min n 221 < grid0.N; rw [N_0]; omega⟩

theorem pointOf_val (t : Fin cfg0.N) : pointOf t.val = t :=
  Fin.ext (by
    have ht : t.val < 222 := Nat.lt_of_lt_of_eq t.isLt N_0
    show min t.val 221 = t.val; omega)

/-- The 48 tiles point `t` decodes, off the blocks staged there. -/
def tilesAt (t : Fin cfg0.N) : Fin 48 → FVec F S16x1024 .bf16 :=
  tiles (iblk m c 1 t) (iblk m c 2 t) (iblk m c 3 t) (iblk m c 4 t)

/-- Column tile `j`'s decoded weights, all 4608 rows: row `y` is decoded at the tile's point `y / 768`. -/
def decoded (j : ℕ) : Vec F S4608x1024 .bf16 := fun y =>
  tilesAt m c (pointOf (6 * j + (y 0).val / 768)) ⟨(y 0).val % 768 / 16, by omega⟩
    (ValueIdx.ix2 (⟨(y 0).val % 16, Nat.mod_lt _ (by decide)⟩ : Fin 16) (y 1))

/-- The rows decoded by the first `i` points of column tile `j` are in `X`; -/
def Part (j i : ℕ) (X : Vec F S4608x1024 .bf16) : Prop := ∀ y : S4608x1024.Idx, (y 0).val < 768 * i → X y = decoded m c j y
/-- the whole of column tile `j - 1` is in `X` (nothing is said at `j = 0`). -/
def Full (j : ℕ) (X : Vec F S4608x1024 .bf16) : Prop := 0 < j → X = decoded m c (j - 1)

/-- What the two scratch buffers hold before point `n`. -/
def Inv (n : ℕ) (X0 X1 : Vec F S4608x1024 .bf16) : Prop :=
  (n / 6 % 2 = 0 → Part m c (n / 6) (n % 6) X0 ∧ Full m c (n / 6) X1)
  ∧ (n / 6 % 2 = 1 → Part m c (n / 6) (n % 6) X1 ∧ Full m c (n / 6) X0)

/-- Before the first point nothing is required of either. -/
theorem Inv_zero (X0 X1 : Vec F S4608x1024 .bf16) : Inv m c 0 X0 X1 :=
  ⟨fun _ => ⟨fun y h => by omega, fun h => by omega⟩, fun h => by omega⟩

/-- A point's stores add its 768 rows. -/
theorem Part_step (t : Fin cfg0.N) (X : Vec F S4608x1024 .bf16) (h : Part m c (t.val / 6) (t.val % 6) X) :
    Part m c (t.val / 6) (t.val % 6 + 1) (stored (grid0.coords t) (tilesAt m c t) X) := by
  intro y hy
  have hc := coord1 t
  unfold stored
  split
  · next hr =>
    rw [hc] at hr
    unfold decoded
    have e1 : pointOf (6 * (t.val / 6) + (y 0).val / 768) = t := by
      have : 6 * (t.val / 6) + (y 0).val / 768 = t.val := by omega
      rw [this, pointOf_val]
    rw [e1]
    have e2 : ((y 0).val - 768 * (grid0.coords t 1).val) / 16 = (y 0).val % 768 / 16 := by rw [hc]; omega
    have e3 : ((y 0).val - 768 * (grid0.coords t 1).val) % 16 = (y 0).val % 16 := by rw [hc]; omega
    simp only [e2, e3]
  · next hr =>
    rw [hc] at hr
    exact h y (by omega)

/-- Six points decode the whole tile. -/
theorem Part_full (j : ℕ) (X : Vec F S4608x1024 .bf16) (h : Part m c j 6 X) : X = decoded m c j :=
  funext fun y => h y (by have : (y 0).val < 4608 := (y 0).isLt; omega)

/-- From one point to the next: if the scratch the point decodes into holds one part more and the other is as it was, the
    requirement before the next point holds. -/
theorem Inv_step_even (t : Fin cfg0.N) (X0 X1 : Vec F S4608x1024 .bf16) (he : t.val / 6 % 2 = 0) (h : Inv m c t.val X0 X1) :
    Inv m c (t.val + 1) (stored (grid0.coords t) (tilesAt m c t) X0) X1 := by
  obtain ⟨hp, hf⟩ := h.1 he
  have hs := Part_step m c t X0 hp
  by_cases h5 : t.val % 6 = 5
  · have e1 : (t.val + 1) / 6 = t.val / 6 + 1 := by omega
    have e2 : (t.val + 1) % 6 = 0 := by omega
    rw [h5] at hs
    refine ⟨fun h => by omega, fun _ => ⟨fun y hy => by omega, fun _ => ?_⟩⟩
    rw [e1, Nat.add_sub_cancel]
    exact Part_full m c _ _ hs
  · have e1 : (t.val + 1) / 6 = t.val / 6 := by omega
    have e2 : (t.val + 1) % 6 = t.val % 6 + 1 := by omega
    refine ⟨fun _ => ?_, fun h => by omega⟩
    rw [e1, e2]
    exact ⟨hs, hf⟩
@[inherit_doc Inv_step_even] theorem Inv_step_odd (t : Fin cfg0.N) (X0 X1 : Vec F S4608x1024 .bf16) (he : t.val / 6 % 2 = 1)
    (h : Inv m c t.val X0 X1) : Inv m c (t.val + 1) X0 (stored (grid0.coords t) (tilesAt m c t) X1) := by
  obtain ⟨hp, hf⟩ := h.2 he
  have hs := Part_step m c t X1 hp
  by_cases h5 : t.val % 6 = 5
  · have e1 : (t.val + 1) / 6 = t.val / 6 + 1 := by omega
    have e2 : (t.val + 1) % 6 = 0 := by omega
    rw [h5] at hs
    refine ⟨fun _ => ⟨fun y hy => by omega, fun _ => ?_⟩, fun h => by omega⟩
    rw [e1, Nat.add_sub_cancel]
    exact Part_full m c _ _ hs
  · have e1 : (t.val + 1) / 6 = t.val / 6 := by omega
    have e2 : (t.val + 1) % 6 = t.val % 6 + 1 := by omega
    refine ⟨fun h => by omega, fun _ => ?_⟩
    rw [e1, e2]
    exact ⟨hs, hf⟩

/-- What the output's staging buffer holds after point `t`, from the first point that multiplies on: the point's rows of `x` times
    the column tile decoded before. -/
def outBlock (t : Fin cfg0.N) : FVec F S1024x1024 .bf16 := product (iblk m c 0 t) (decoded m c (t.val / 6 - 1))

end Cert.Proof

end
-- ==== Proof.BodyFirst.lean ====
/-
  THE BODY WHEN IT IS IN THE FIRST COLUMN OF THE GRID (no weights are decoded yet, so nothing is multiplied).
  The body's triple in this case, on any whole staging buffers: run statement by statement, the 48 stores of decoded weights are
  recognised as the tiles of `Dequant.lean`.
-/
module

public import proofs.«01_k».proof.Proof.Dequant
public import proofs.«01_k».proof.Proof.Gen.KernelIdeal.Frame

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

-- (the run's proof term is large: checking it walks past the default budget)
set_option maxHeartbeats 2000000 in
/-- At a point whose first coordinate is zero: the first scratch takes the 48 tiles, everything else is handed back as it was. -/
theorem body_first (c : Dev nD) (i : grid0.Coords)
    (arg2 : Memref sig .tc .vmem S1024x4608 .bf16) (harg2 : arg2.IsWhole) (arg3 : Memref sig .tc .vmem S3x128x1024 .i8) (harg3 : arg3.IsWhole)
    (arg4 : Memref sig .tc .vmem S3x64x1024 .i8) (harg4 : arg4.IsWhole) (arg5 : Memref sig .tc .vmem S3x16x1024 .i8) (harg5 : arg5.IsWhole)
    (arg6 : Memref sig .tc .vmem S3x1x1024 .f16) (harg6 : arg6.IsWhole) (arg7 : Memref sig .tc .vmem S1024x1024 .bf16) (harg7 : arg7.IsWhole)
    (arg8 : Memref sig .tc .vmem S4608x1024 .bf16) (harg8 : arg8.IsWhole) (arg9 : Memref sig .tc .vmem S4608x1024 .bf16) (harg9 : arg9.IsWhole)
    (hc1 : k0_cond1 i = 1#1) (hc2 : ¬k0_cond2 i = 1#1) (hc3 : ¬k0_cond3 i = 1#1)
    (x0 : Vec F S1024x4608 .bf16) (x1 : Vec F S3x128x1024 .i8) (x2 : Vec F S3x64x1024 .i8) (x3 : Vec F S3x16x1024 .i8)
    (x4 : Vec F S3x1x1024 .f16) (o : Vec F S1024x1024 .bf16) (w0 w1 : Vec F S4608x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare o
        ∗ owns (c : Thread nD τ) arg8 fullShare w0 ∗ owns (c : Thread nD τ) arg9 fullShare w1
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare o
            ∗ owns (c : Thread nD τ) arg8 fullShare (stored i (tiles x1 x2 x3 x4) w0)
            ∗ owns (c : Thread nD τ) arg9 fullShare w1) -∗ K ⟨⟩))
      ⊢ wp frame (wpE (defs₀ (F := F)) Variants.none c none) E
          (cc0_q6k_linear i arg2 harg2 arg3 harg3 arg4 harg4 arg5 harg5 arg6 harg6 arg7 harg7 arg8 harg8 arg9 harg9) K := by
  simp only [cc0_q6k_linear_eq_skeleton]; unfold cc0_q6k_linear_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hs0; obtain rfl := harg9.eq_unread hs1
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact harg7.read_unread _
  isplitl [HS0]
  · iexists _; isplitr; swap; · iexact HS0
    ipureintro
    exact (read_stores arg8 harg8 i w0
      (tile (fun g => View.readAt (Elt F) arg3.view (Rect.unit (s := S3x128x1024) ![g.val, 0, 0] S1x128x1024.size (inb_ql g)).toLoadRect (harg3.unread x1))
        (fun g => View.readAt (Elt F) arg4.view (Rect.unit (s := S3x64x1024) ![g.val, 0, 0] S1x64x1024.size (inb_qh g)).toLoadRect (harg4.unread x2))
        (fun g => View.readAt (Elt F) arg5.view (Rect.unit (s := S3x16x1024) ![g.val, 0, 0] S1x16x1024.size (inb_sc g)).toLoadRect (harg5.unread x3))
        (fun g => View.readAt (Elt F) arg6.view (Rect.unit (s := S3x1x1024) ![g.val, 0, 0] S1x1x1024.size (inb_d g)).toLoadRect (harg6.unread x4)))
      (fun j => k0_off1 i (BitVec.ofNat 32 (j.val / 16)) (BitVec.ofNat 32 (16 * (j.val % 16))))
      (fun j => (k0_off1_eq i ⟨j.val / 16, by have := j.isLt; omega⟩ ⟨j.val % 16, Nat.mod_lt _ (by decide)⟩).trans (tileOff_split i j))
      (fun j => k0_off1_inb i hc1 ⟨j.val / 16, by have := j.isLt; omega⟩ ⟨j.val % 16, Nat.mod_lt _ (by decide)⟩)).trans
      (congrArg (fun T => stored i T w0) (tile_read arg3 harg3 arg4 harg4 arg5 harg5 arg6 harg6 x1 x2 x3 x4))
  iexists _; isplitr; swap; · iexact HS1
  ipureintro
  exact harg9.read_unread _

end Cert.Proof

end
-- ==== Proof.BodyOdd.lean ====
/-
  THE BODY WHEN THE FIRST COORDINATE IS ODD.
  The body's triple in this case, on any whole staging buffers: run statement by statement, the 48 stores of decoded weights are
  recognised as the tiles of `Dequant.lean`, and the store of the product as `product`.
-/
module

public import proofs.«01_k».proof.Proof.Dequant
public import proofs.«01_k».proof.Proof.Gen.KernelIdeal.Frame

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

-- (the run's proof term is large: checking it walks past the default budget)
set_option maxHeartbeats 2000000 in
/-- At a point whose first coordinate is odd: the second scratch takes the 48 tiles, and the output block becomes the product with the first scratch. -/
theorem body_odd (c : Dev nD) (i : grid0.Coords)
    (arg2 : Memref sig .tc .vmem S1024x4608 .bf16) (harg2 : arg2.IsWhole) (arg3 : Memref sig .tc .vmem S3x128x1024 .i8) (harg3 : arg3.IsWhole)
    (arg4 : Memref sig .tc .vmem S3x64x1024 .i8) (harg4 : arg4.IsWhole) (arg5 : Memref sig .tc .vmem S3x16x1024 .i8) (harg5 : arg5.IsWhole)
    (arg6 : Memref sig .tc .vmem S3x1x1024 .f16) (harg6 : arg6.IsWhole) (arg7 : Memref sig .tc .vmem S1024x1024 .bf16) (harg7 : arg7.IsWhole)
    (arg8 : Memref sig .tc .vmem S4608x1024 .bf16) (harg8 : arg8.IsWhole) (arg9 : Memref sig .tc .vmem S4608x1024 .bf16) (harg9 : arg9.IsWhole)
    (hc1 : ¬k0_cond1 i = 1#1) (hc2 : ¬k0_cond2 i = 1#1) (hc3 : k0_cond3 i = 1#1)
    (x0 : Vec F S1024x4608 .bf16) (x1 : Vec F S3x128x1024 .i8) (x2 : Vec F S3x64x1024 .i8) (x3 : Vec F S3x16x1024 .i8)
    (x4 : Vec F S3x1x1024 .f16) (o : Vec F S1024x1024 .bf16) (w0 w1 : Vec F S4608x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare o
        ∗ owns (c : Thread nD τ) arg8 fullShare w0 ∗ owns (c : Thread nD τ) arg9 fullShare w1
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (product x0 w0)
            ∗ owns (c : Thread nD τ) arg8 fullShare w0
            ∗ owns (c : Thread nD τ) arg9 fullShare (stored i (tiles x1 x2 x3 x4) w1)) -∗ K ⟨⟩))
      ⊢ wp frame (wpE (defs₀ (F := F)) Variants.none c none) E
          (cc0_q6k_linear i arg2 harg2 arg3 harg3 arg4 harg4 arg5 harg5 arg6 harg6 arg7 harg7 arg8 harg8 arg9 harg9) K := by
  simp only [cc0_q6k_linear_eq_skeleton]; unfold cc0_q6k_linear_skel
  simp only [k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hs0; obtain rfl := harg9.eq_unread hs1
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact (read_store_whole arg7 (harg7.unread o) inb_S1024x1024_S1024x1024_0_0 _).trans (product_read arg2 harg2 arg8 harg8 x0 w0)
  isplitl [HS0]
  · iexists _; isplitr; swap; · iexact HS0
    ipureintro
    exact harg8.read_unread _
  iexists _; isplitr; swap; · iexact HS1
  ipureintro
  exact (read_stores arg9 harg9 i w1
    (tile (fun g => View.readAt (Elt F) arg3.view (Rect.unit (s := S3x128x1024) ![g.val, 0, 0] S1x128x1024.size (inb_ql g)).toLoadRect (harg3.unread x1))
      (fun g => View.readAt (Elt F) arg4.view (Rect.unit (s := S3x64x1024) ![g.val, 0, 0] S1x64x1024.size (inb_qh g)).toLoadRect (harg4.unread x2))
      (fun g => View.readAt (Elt F) arg5.view (Rect.unit (s := S3x16x1024) ![g.val, 0, 0] S1x16x1024.size (inb_sc g)).toLoadRect (harg5.unread x3))
      (fun g => View.readAt (Elt F) arg6.view (Rect.unit (s := S3x1x1024) ![g.val, 0, 0] S1x1x1024.size (inb_d g)).toLoadRect (harg6.unread x4)))
    (fun j => k0_off3 i (BitVec.ofNat 32 (j.val / 16)) (BitVec.ofNat 32 (16 * (j.val % 16))))
    (fun j => (k0_off3_eq i ⟨j.val / 16, by have := j.isLt; omega⟩ ⟨j.val % 16, Nat.mod_lt _ (by decide)⟩).trans (tileOff_split i j))
    (fun j => k0_off3_inb i hc3 ⟨j.val / 16, by have := j.isLt; omega⟩ ⟨j.val % 16, Nat.mod_lt _ (by decide)⟩)).trans
    (congrArg (fun T => stored i T w1) (tile_read arg3 harg3 arg4 harg4 arg5 harg5 arg6 harg6 x1 x2 x3 x4))

end Cert.Proof

end
-- ==== Proof.BodyEven.lean ====
/-
  THE BODY WHEN THE FIRST COORDINATE IS EVEN AND NOT ZERO.
  The body's triple in this case, on any whole staging buffers: run statement by statement, the 48 stores of decoded weights are
  recognised as the tiles of `Dequant.lean`, and the store of the product as `product`.
-/
module

public import proofs.«01_k».proof.Proof.Dequant
public import proofs.«01_k».proof.Proof.Gen.KernelIdeal.Frame

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

-- (the run's proof term is large: checking it walks past the default budget)
set_option maxHeartbeats 2000000 in
/-- At a point whose first coordinate is even and positive: the first scratch takes the 48 tiles, and the output block becomes the product with the second scratch. -/
theorem body_even (c : Dev nD) (i : grid0.Coords)
    (arg2 : Memref sig .tc .vmem S1024x4608 .bf16) (harg2 : arg2.IsWhole) (arg3 : Memref sig .tc .vmem S3x128x1024 .i8) (harg3 : arg3.IsWhole)
    (arg4 : Memref sig .tc .vmem S3x64x1024 .i8) (harg4 : arg4.IsWhole) (arg5 : Memref sig .tc .vmem S3x16x1024 .i8) (harg5 : arg5.IsWhole)
    (arg6 : Memref sig .tc .vmem S3x1x1024 .f16) (harg6 : arg6.IsWhole) (arg7 : Memref sig .tc .vmem S1024x1024 .bf16) (harg7 : arg7.IsWhole)
    (arg8 : Memref sig .tc .vmem S4608x1024 .bf16) (harg8 : arg8.IsWhole) (arg9 : Memref sig .tc .vmem S4608x1024 .bf16) (harg9 : arg9.IsWhole)
    (hc1 : ¬k0_cond1 i = 1#1) (hc2 : k0_cond2 i = 1#1) (hc3 : ¬k0_cond3 i = 1#1)
    (x0 : Vec F S1024x4608 .bf16) (x1 : Vec F S3x128x1024 .i8) (x2 : Vec F S3x64x1024 .i8) (x3 : Vec F S3x16x1024 .i8)
    (x4 : Vec F S3x1x1024 .f16) (o : Vec F S1024x1024 .bf16) (w0 w1 : Vec F S4608x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare o
        ∗ owns (c : Thread nD τ) arg8 fullShare w0 ∗ owns (c : Thread nD τ) arg9 fullShare w1
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (product x0 w1)
            ∗ owns (c : Thread nD τ) arg8 fullShare (stored i (tiles x1 x2 x3 x4) w0)
            ∗ owns (c : Thread nD τ) arg9 fullShare w1) -∗ K ⟨⟩))
      ⊢ wp frame (wpE (defs₀ (F := F)) Variants.none c none) E
          (cc0_q6k_linear i arg2 harg2 arg3 harg3 arg4 harg4 arg5 harg5 arg6 harg6 arg7 harg7 arg8 harg8 arg9 harg9) K := by
  simp only [cc0_q6k_linear_eq_skeleton]; unfold cc0_q6k_linear_skel
  simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hs0; obtain rfl := harg9.eq_unread hs1
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    exact (read_store_whole arg7 (harg7.unread o) inb_S1024x1024_S1024x1024_0_0 _).trans (product_read arg2 harg2 arg9 harg9 x0 w1)
  isplitl [HS0]
  · iexists _; isplitr; swap; · iexact HS0
    ipureintro
    exact (read_stores arg8 harg8 i w0
      (tile (fun g => View.readAt (Elt F) arg3.view (Rect.unit (s := S3x128x1024) ![g.val, 0, 0] S1x128x1024.size (inb_ql g)).toLoadRect (harg3.unread x1))
        (fun g => View.readAt (Elt F) arg4.view (Rect.unit (s := S3x64x1024) ![g.val, 0, 0] S1x64x1024.size (inb_qh g)).toLoadRect (harg4.unread x2))
        (fun g => View.readAt (Elt F) arg5.view (Rect.unit (s := S3x16x1024) ![g.val, 0, 0] S1x16x1024.size (inb_sc g)).toLoadRect (harg5.unread x3))
        (fun g => View.readAt (Elt F) arg6.view (Rect.unit (s := S3x1x1024) ![g.val, 0, 0] S1x1x1024.size (inb_d g)).toLoadRect (harg6.unread x4)))
      (fun j => k0_off2 i (BitVec.ofNat 32 (j.val / 16)) (BitVec.ofNat 32 (16 * (j.val % 16))))
      (fun j => (k0_off2_eq i ⟨j.val / 16, by have := j.isLt; omega⟩ ⟨j.val % 16, Nat.mod_lt _ (by decide)⟩).trans (tileOff_split i j))
      (fun j => k0_off2_inb i hc2 ⟨j.val / 16, by have := j.isLt; omega⟩ ⟨j.val % 16, Nat.mod_lt _ (by decide)⟩)).trans
      (congrArg (fun T => stored i T w0) (tile_read arg3 harg3 arg4 harg4 arg5 harg5 arg6 harg6 x1 x2 x3 x4))
  iexists _; isplitr; swap; · iexact HS1
  ipureintro
  exact harg9.read_unread _

end Cert.Proof

end
-- ==== Proof.Run.lean ====
/-
  THE KERNEL'S RUN. The body's triple of each branch (`BodyFirst`, `BodyOdd`, `BodyEven`) under the account of the scratch
  buffers (`Sweep`) gives the run of the whole program: every array at what the write-backs leave, every other buffer at what the
  host lines leave, every counter at zero.
-/
module

public import proofs.«01_k».proof.Proof.Sweep
public import proofs.«01_k».proof.Proof.BodyFirst
public import proofs.«01_k».proof.Proof.BodyOdd
public import proofs.«01_k».proof.Proof.BodyEven
public import proofs.«01_k».proof.Proof.Gen.KernelIdeal.Points
public import Idealize.ShloMosaic.Lib.Claim

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers, whole. -/
abbrev sc0 : Memref sig .tc .vmem S4608x1024 .bf16 := Memref.whole cc0_scratch0
@[inherit_doc sc0] abbrev sc1 : Memref sig .tc .vmem S4608x1024 .bf16 := Memref.whole cc0_scratch1

/-- Between points the scratch buffers are owned at some contents as `Inv` describes them, beside the generator's register. -/
def Φat (c : Dev nD) (n : ℕ) : sProp 𝕄 :=
  iprop((∃ X0 X1, owns (c : Thread nD τ) sc0 fullShare X0 ∗ owns (c : Thread nD τ) sc1 fullShare X1 ∗ ⌜Inv m c n X0 X1⌝)
    ∗ (∃ r, prngReg c r))

/-- What the launch hands the pipeline: the two scratch buffers at some contents, and the register. -/
theorem ΦA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

theorem Φ_enter (c : Dev nD) : Pipeline.ΦA spec0 c ⊢ Φat m c 0 := by
  rw [ΦA_eq]; unfold Φat
  iintro ⟨⟨⟨%X0, H0⟩, ⟨%X1, H1⟩⟩, Hg⟩
  isplitr [Hg]; swap; · iexact Hg
  iexists X0, X1
  isplitl [H0]; · iexact H0
  isplitl [H1]; · iexact H1
  ipureintro; exact Inv_zero m c X0 X1

theorem Φ_leave (c : Dev nD) (n : ℕ) : Φat m c n ⊢ Pipeline.ΦA spec0 c := by
  rw [ΦA_eq]; unfold Φat
  iintro ⟨⟨%X0, %X1, H0, H1, -⟩, Hg⟩
  isplitr [Hg]; swap; · iexact Hg
  isplitl [H0]; · iexists X0; iexact H0
  iexists X1; iexact H1

/-- The proof data on core `c`: the arrays as the region finds them; after the body each input's buffer at its block, the
    output's at the point's product; the scratch as `Φat`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock m c t
  Φ n := Φat m c n.val
  q _ := fullShare
  owed _ := 0

theorem A_eq (c : Dev nD) (w : Fin cfg0.W) : (dats m 0 c).A w = V m c (Pipeline.arrRef spec0 w) := by dsimp only [dats]

/-- What the body leaves, window by window. -/
theorem after0 (c : Dev nD) (t : Fin cfg0.N) : (dats m 0 c).after 0 t = iblk m c 0 t := by dsimp only [dats]
@[inherit_doc after0] theorem after1 (c : Dev nD) (t : Fin cfg0.N) : (dats m 0 c).after 1 t = iblk m c 1 t := by dsimp only [dats]
@[inherit_doc after0] theorem after2 (c : Dev nD) (t : Fin cfg0.N) : (dats m 0 c).after 2 t = iblk m c 2 t := by dsimp only [dats]
@[inherit_doc after0] theorem after3 (c : Dev nD) (t : Fin cfg0.N) : (dats m 0 c).after 3 t = iblk m c 3 t := by dsimp only [dats]
@[inherit_doc after0] theorem after4 (c : Dev nD) (t : Fin cfg0.N) : (dats m 0 c).after 4 t = iblk m c 4 t := by dsimp only [dats]
@[inherit_doc after0] theorem after5 (c : Dev nD) (t : Fin cfg0.N) : (dats m 0 c).after 5 t = outBlock m c t := by dsimp only [dats]

/-- Each input's staging buffer holds its block when the body runs. -/
theorem before0 (c : Dev nD) (t : Fin cfg0.N) (d) : (dats m 0 c).before 0 t d = iblk m c 0 t :=
  before0_0_of m (dats m 0 c) (A_eq m c 0) (after0 m c) t d
@[inherit_doc before0] theorem before1 (c : Dev nD) (t : Fin cfg0.N) (d) : (dats m 0 c).before 1 t d = iblk m c 1 t :=
  before0_1_of m (dats m 0 c) (A_eq m c 1) (after1 m c) t d
@[inherit_doc before0] theorem before2 (c : Dev nD) (t : Fin cfg0.N) (d) : (dats m 0 c).before 2 t d = iblk m c 2 t :=
  before0_2_of m (dats m 0 c) (A_eq m c 2) (after2 m c) t d
@[inherit_doc before0] theorem before3 (c : Dev nD) (t : Fin cfg0.N) (d) : (dats m 0 c).before 3 t d = iblk m c 3 t :=
  before0_3_of m (dats m 0 c) (A_eq m c 3) (after3 m c) t d
@[inherit_doc before0] theorem before4 (c : Dev nD) (t : Fin cfg0.N) (d) : (dats m 0 c).before 4 t d = iblk m c 4 t :=
  before0_4_of m (dats m 0 c) (A_eq m c 4) (after4 m c) t d

/-- The output's window is idle exactly at the points of first coordinate zero, -/
theorem idle5 (t : Fin cfg0.N) (h : t.val / 6 = 0) : cfg0.idle 5 (grid0.coords t) = true := by
  show (!(k0_cond2 (grid0.coords t) == 1#1) && !(k0_cond3 (grid0.coords t) == 1#1)) = true
  have h2 : ¬ k0_cond2 (grid0.coords t) = 1#1 := fun e => ((cond2_iff t).mp e).1 h
  have h3 : ¬ k0_cond3 (grid0.coords t) = 1#1 := fun e => by have := (cond3_iff t).mp e; omega
  simp [h2, h3]
theorem live5 (t : Fin cfg0.N) (h : ¬ t.val / 6 = 0) : cfg0.idle 5 (grid0.coords t) = false := by
  show (!(k0_cond2 (grid0.coords t) == 1#1) && !(k0_cond3 (grid0.coords t) == 1#1)) = false
  rcases Nat.mod_two_eq_zero_or_one (t.val / 6) with e | e
  · simp [(cond2_iff t).mpr ⟨h, e⟩]
  · simp [(cond3_iff t).mpr e]
/-- and is written back at none of them. -/
theorem noflush5 : ∀ t : Fin cfg0.N, t.val / 6 = 0 → (cfg0.win 5).flush t = false :=
  (by decide +kernel : ∀ t : Fin grid0.N, t.val / 6 = 0 → (cfg0.win 5).flush t = false)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = Φat m c (t.val + 1) from rfl, show (dats m 0 c).Φ t.castSucc = Φat m c t.val from rfl,
    show (dats m 0 c).owesAt () t.succ = (dats m 0 c).owesAt () t.castSucc from rfl]
  rw [show (dats m 0 c).leavesExact 0 t = owns (c : Thread nD τ) (st0_0 t) fullShare (iblk m c 0 t) from rfl,
    show (dats m 0 c).leavesExact 1 t = owns (c : Thread nD τ) (st0_1 t) fullShare (iblk m c 1 t) from rfl,
    show (dats m 0 c).leavesExact 2 t = owns (c : Thread nD τ) (st0_2 t) fullShare (iblk m c 2 t) from rfl,
    show (dats m 0 c).leavesExact 3 t = owns (c : Thread nD τ) (st0_3 t) fullShare (iblk m c 3 t) from rfl,
    show (dats m 0 c).leavesExact 4 t = owns (c : Thread nD τ) (st0_4 t) fullShare (iblk m c 4 t) from rfl]
  unfold Φat
  by_cases h0 : t.val / 6 = 0
  · rw [(dats m 0 c).leavesExact_idle 5 t (idle5 t h0) (noflush5 t h0)]
    iintro ⟨⟨⟨%X0, %X1, HS0, HS1, %hI⟩, Hg⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ _ _ _ ((cond1_iff t).mpr h0) (fun e => ((cond2_iff t).mp e).1 h0)
      (fun e => by have := (cond3_iff t).mp e; omega) (iblk m c 0 t) (iblk m c 1 t) (iblk m c 2 t) (iblk m c 3 t) (iblk m c 4 t)
      ((dats m 0 c).before 5 t d5) X0 X1 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitr [Hg]; swap; · iexact Hg
      iexists _, _
      isplitl [HS0]; · iexact HS0
      isplitl [HS1]; · iexact HS1
      ipureintro; exact Inv_step_even m c t X0 X1 (by omega) hI
    isplitl [Ho]; · iexact Ho
    isplitl [H0]; · iexact H0
    isplitl [H1]; · iexact H1
    isplitl [H2]; · iexact H2
    isplitl [H3]; · iexact H3
    isplitl [H4]; · iexact H4
    iexists d5; iexact H5
  · rw [show (dats m 0 c).leavesExact 5 t = owns (c : Thread nD τ) (st0_5 t) fullShare (outBlock m c t) from by
      unfold Dat.leavesExact; rw [live5 t h0, after5]]
    iintro ⟨⟨⟨%X0, %X1, HS0, HS1, %hI⟩, Hg⟩, Ho, ⟨%d0, H0⟩, ⟨%d1, H1⟩, ⟨%d2, H2⟩, ⟨%d3, H3⟩, ⟨%d4, H4⟩, ⟨%d5, H5⟩⟩
    rcases Nat.mod_two_eq_zero_or_one (t.val / 6) with he | he
    · obtain rfl : X1 = decoded m c (t.val / 6 - 1) := (hI.1 he).2 (by omega)
      iapply (body_even c (grid0.coords t) _ _ _ _ _ _ _ _ _ _ _ _ _ _ _ _ (fun e => h0 ((cond1_iff t).mp e)) ((cond2_iff t).mpr ⟨h0, he⟩)
        (fun e => by have := (cond3_iff t).mp e; omega) (iblk m c 0 t) (iblk m c 1 t) (iblk m c 2 t) (iblk m c 3 t) (iblk m c 4 t)
        ((dats m 0 c).before 5 t d5) X0 (decoded m c (t.val / 6 - 1)) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitr [Hg]; swap; · iexact Hg
        iexists _, _
        isplitl [HS0]; · iexact HS0
        isplitl [HS1]; · iexact HS1
        ipureintro; exact Inv_step_even m c t X0 _ he hI
      isplitl [Ho]; · iexact Ho
      isplitl [H0]; · iexact H0
      isplitl [H1]; · iexact H1
      isplitl [H2]; · iexact H2
      isplitl [H3]; · iexact H3
      isplitl [H4]; · iexact H4
      iexact H5
    · obtain rfl : X0 = decoded m c (t.val / 6 - 1) := (hI.2 he).2 (by omega)
      iapply (body_odd c (grid0.coords t) _ _ _ _ _ _ _ _ _ _ _ _ _ _ _ _ (fun e => h0 ((cond1_iff t).mp e))
        (fun e => by have := (cond2_iff t).mp e; omega) ((cond3_iff t).mpr he) (iblk m c 0 t) (iblk m c 1 t) (iblk m c 2 t) (iblk m c 3 t)
        (iblk m c 4 t) ((dats m 0 c).before 5 t d5) (decoded m c (t.val / 6 - 1)) X1 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitr [Hg]; swap; · iexact Hg
        iexists _, _
        isplitl [HS0]; · iexact HS0
        isplitl [HS1]; · iexact HS1
        ipureintro; exact Inv_step_odd m c t _ X1 he hI
      isplitl [Ho]; · iexact Ho
      isplitl [H0]; · iexact H0
      isplitl [H1]; · iexact H1
      isplitl [H2]; · iexact H2
      isplitl [H3]; · iexact H3
      isplitl [H4]; · iexact H4
      iexact H5

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- THE RUN: from any memory with zero counters every weakly fair execution terminates with the pipeline's arrays at what the
    write-backs leave, every other buffer at what the host lines leave, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => Φ_enter m c) (hout := fun c => Φ_leave m c _)

/-- THE FRAME: the argument arrays end as they were, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof

end
-- ==== Proof.KernelFrame.lean ====
/-
  THE FRAME OF THE KERNEL AS PRINTED. The program printed for reading at the extended reals is the kernel's own text, so the run
  proved of it (`Run.lean`, at any float instance) is a run of the kernel too: the two programs are equal by unfolding.
-/
module

public import proofs.«01_k».proof.Proof.Run
public import proofs.«01_k».proof.Proof.Gen.Kernel

@[expose] public section

set_option maxRecDepth 16384

namespace Cert.Proof

open Idealize.ShloMosaic Idealize.SL.Sem

variable {F : FTy → Type} [FloatOps F]

attribute [local instance] Cert.Kernel.Gen.facts Cert.KernelIdeal.Gen.facts

set_option smartUnfolding false in
/-- From any memory with zero counters the kernel runs to its end, its argument arrays as they were, its counters at zero. -/
theorem kernel_frame (m : (ℓ : Loc Cert.Kernel.nD Cert.Kernel.τ Cert.Kernel.sig) → Buf (Elt F) ℓ)
    (ρ : Dev Cert.Kernel.nD → PrngReg) :
    θ_run (Cert.Kernel.defs (F := F)) (onTc (τ := Cert.Kernel.τ) (Cert.Kernel.main (F := F))) ⟨m, fun _ => 0, ρ⟩
      (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4))
        ∧ r.2.sem = fun _ => 0) :=
  frame (F := F) m ρ

end Cert.Proof
-- ==== Proof.Blocks.lean ====
/-
  WHAT A STAGED BLOCK HOLDS, in terms of the arguments. Grid point `t` has first coordinate `j = t / 6` and second `i = t % 6`: the
  packed planes' blocks are super-blocks `3 i … 3 i + 2` of column tile `min j 35`, the block of `x` is row block `i` (block 0 while
  `j = 0`), and the output's block is row block `i` of column tile `j - 1`.
-/
module

public import proofs.«01_k».proof.Proof.Sweep
public import Idealize.ShloMosaic.Lib.Pipeline.ValueKit
public import Idealize.ShloMosaic.Lib.Claim
public import Idealize.ShloMosaic.Lib.Pointwise

@[expose] public section

noncomputable section

namespace Cert.Proof

open Cert.KernelIdeal Cert.KernelIdeal.Gen
open Idealize.ShloMosaic Idealize.ShloMosaic.TcCoe

variable {F : FTy → Type} [FloatOps F] (m : (ℓ : Loc nD τ sig) → Buf (Elt F) ℓ) (c : Dev nD)

/-- The windows' block indices. -/
theorem index0 : ∀ t : Fin cfg0.N, win0_0.index t = ![if t.val / 6 = 0 then 0 else t.val % 6, 0] :=
  (by decide +kernel : ∀ t : Fin grid0.N, win0_0.index t = ![if t.val / 6 = 0 then 0 else t.val % 6, 0])
@[inherit_doc index0] theorem index1 : ∀ t : Fin cfg0.N, win0_1.index t = ![t.val % 6, 0, min (t.val / 6) 35] :=
  (by decide +kernel : ∀ t : Fin grid0.N, win0_1.index t = ![t.val % 6, 0, min (t.val / 6) 35])
@[inherit_doc index0] theorem index2 : ∀ t : Fin cfg0.N, win0_2.index t = ![t.val % 6, 0, min (t.val / 6) 35] :=
  (by decide +kernel : ∀ t : Fin grid0.N, win0_2.index t = ![t.val % 6, 0, min (t.val / 6) 35])
@[inherit_doc index0] theorem index3 : ∀ t : Fin cfg0.N, win0_3.index t = ![t.val % 6, 0, min (t.val / 6) 35] :=
  (by decide +kernel : ∀ t : Fin grid0.N, win0_3.index t = ![t.val % 6, 0, min (t.val / 6) 35])
@[inherit_doc index0] theorem index4 : ∀ t : Fin cfg0.N, win0_4.index t = ![t.val % 6, 0, min (t.val / 6) 35] :=
  (by decide +kernel : ∀ t : Fin grid0.N, win0_4.index t = ![t.val % 6, 0, min (t.val / 6) 35])
@[inherit_doc index0] theorem index5 : ∀ t : Fin cfg0.N,
    win0_5.index t = ![if t.val / 6 = 0 then 0 else t.val % 6, t.val / 6 - 1] :=
  (by decide +kernel : ∀ t : Fin grid0.N, win0_5.index t = ![if t.val / 6 = 0 then 0 else t.val % 6, t.val / 6 - 1])

/-- The low plane's block at an index; -/
theorem blk1 (t : Fin cfg0.N) (y : S3x128x1024.Idx) (i : S18x128x36864.Idx) (h0 : (i 0).val = 3 * (t.val % 6) + (y 0).val)
    (h1 : (i 1).val = (y 1).val) (h2 : (i 2).val = 1024 * min (t.val / 6) 35 + (y 2).val) :
    iblk m c 1 t y = m ((c : Thread nD τ).loc main_arg1) i := by
  blk_ext [iblk, V, index1 t]
/-- the high plane's; -/
theorem blk2 (t : Fin cfg0.N) (y : S3x64x1024.Idx) (i : S18x64x36864.Idx) (h0 : (i 0).val = 3 * (t.val % 6) + (y 0).val)
    (h1 : (i 1).val = (y 1).val) (h2 : (i 2).val = 1024 * min (t.val / 6) 35 + (y 2).val) :
    iblk m c 2 t y = m ((c : Thread nD τ).loc main_arg2) i := by
  blk_ext [iblk, V, index2 t]
/-- the sub-block scales'; -/
theorem blk3 (t : Fin cfg0.N) (y : S3x16x1024.Idx) (i : S18x16x36864.Idx) (h0 : (i 0).val = 3 * (t.val % 6) + (y 0).val)
    (h1 : (i 1).val = (y 1).val) (h2 : (i 2).val = 1024 * min (t.val / 6) 35 + (y 2).val) :
    iblk m c 3 t y = m ((c : Thread nD τ).loc main_arg3) i := by
  blk_ext [iblk, V, index3 t]

/-- What the host lines before the region make of `x` and of the super-block scales: the same values at the shapes the blocks are
    cut from. -/
theorem V_x : V m c main_v0 = shapeCast S6144x4608 (m ((c : Thread nD τ).loc main_arg0)) shapeCasts_S3x2048x4608_S6144x4608 := by
  rfl
@[inherit_doc V_x] theorem V_d : V m c main_v1 = shapeCast S18x1x36864 (m ((c : Thread nD τ).loc main_arg4)) shapeCasts_S18x36864_S18x1x36864 := by
  rfl

/-- The super-block scales' block at an index; -/
theorem blk4 (t : Fin cfg0.N) (y : S3x1x1024.Idx) (i : S18x36864.Idx) (h0 : (i 0).val = 3 * (t.val % 6) + (y 0).val)
    (h1 : (i 1).val = 1024 * min (t.val / 6) 35 + (y 2).val) :
    iblk m c 4 t y = m ((c : Thread nD τ).loc main_arg4) i := by
  show V m c main_v1 (((cfg0.win 4).blk t).view.emb y) = _
  rw [V_d]
  refine shapeCast_apply _ _ _ _ ?_
  have hy : (y 1).val < 1 := (y 1).isLt
  show (S18x36864.rowMajor i).val = (S18x1x36864.rowMajor (((cfg0.win 4).blk t).view.emb y)).val
  rewrite [Shape.rowMajor_val_two, Shape.rowMajor_val_three]
  blk_simp [index4 t]
  omega
/-- the rows of `x`, from the first point that multiplies on. -/
theorem blk0 (t : Fin cfg0.N) (ht : ¬ t.val / 6 = 0) (y : S1024x4608.Idx) (i : S3x2048x4608.Idx)
    (h : 2048 * (i 0).val + (i 1).val = 1024 * (t.val % 6) + (y 0).val) (h2 : (i 2).val = (y 1).val) :
    iblk m c 0 t y = m ((c : Thread nD τ).loc main_arg0) i := by
  have e := index0 t
  rw [if_neg ht] at e
  show V m c main_v0 (((cfg0.win 0).blk t).view.emb y) = _
  rw [V_x]
  refine shapeCast_apply _ _ _ _ ?_
  show (S3x2048x4608.rowMajor i).val = (S6144x4608.rowMajor (((cfg0.win 0).blk t).view.emb y)).val
  rewrite [Shape.rowMajor_val_two, Shape.rowMajor_val_three]
  blk_simp [e]
  omega

end Cert.Proof

end
-- ==== Proof.Code.lean ====
/-
  THE SIX-BIT CODES, BYTE BY BYTE. A weight's code is four bits of a byte of the low plane and two bits of a byte of the high
  plane. The kernel takes four bytes of a column together as one 32-bit word, moves and masks the word, and reads each byte of the
  result as a signed integer: four times (code - 32). The reference takes one byte at a time, widened to 32 bits.
-/
module

public import Idealize.ShloMosaic.Lib.BitcastFour

@[expose] public section

namespace Cert.Proof

open Idealize.ShloMosaic

/-- Field `k`'s four low bits, from the low plane's byte; -/
def nibble (k : Fin 4) (lo : BitVec 8) : ℕ := lo.toNat / 16 ^ (k.val / 2) % 16
/-- its two high bits, from the high plane's. -/
def pair (k : Fin 4) (hi : BitVec 8) : ℕ := hi.toNat / 4 ^ k.val % 4
/-- The code less its offset. -/
def code (k : Fin 4) (lo hi : BitVec 8) : ℤ := ((nibble k lo + 16 * pair k hi : ℕ) : ℤ) - 32

theorem nibble_lt (k : Fin 4) (lo : BitVec 8) : nibble k lo < 16 := Nat.mod_lt _ (by decide)
theorem pair_lt (k : Fin 4) (hi : BitVec 8) : pair k hi < 4 := Nat.mod_lt _ (by decide)

/-! ## One byte of the kernel's word -/

/-- The low plane's bits moved to bits 2–5, in a value of any width; -/
def loMove {w : ℕ} (k : Fin 4) (x : BitVec w) : BitVec w := match k with
  | 0 | 1 => x <<< 2
  | 2 | 3 => x >>> 2
/-- the high plane's moved to bits 6–7. -/
def hiMove {w : ℕ} (k : Fin 4) (x : BitVec w) : BitVec w := match k with
  | 0 => x <<< 6
  | 1 => x <<< 4
  | 2 => x <<< 2
  | 3 => x

/-- The kernel's word of four codes, from the two planes' words. -/
def joined (k : Fin 4) (lo hi : BitVec 32) : BitVec 32 :=
  (loMove k lo &&& 1010580540#32) ||| (hiMove k (hi ^^^ 2863311530#32) &&& 3233857728#32)
/-- The same on one byte of each plane. -/
def joined8 (k : Fin 4) (lo hi : BitVec 8) : BitVec 8 :=
  (loMove k lo &&& 60#8) ||| (hiMove k (hi ^^^ 170#8) &&& 192#8)

/-- Byte `b` of a word. -/
def byteOf (x : BitVec 32) (b : ℕ) : BitVec 8 := x.extractLsb' (8 * b) 8

theorem getLsbD_byteOf (x : BitVec 32) (b i : ℕ) (hi : i < 8) : (byteOf x b).getLsbD i = x.getLsbD (8 * b + i) := by
  unfold byteOf
  rw [BitVec.getLsbD_extractLsb']
  simp [hi]

/-- No bit crosses a byte: a byte of the joined word is the join of the bytes. -/
theorem byteOf_joined (k : Fin 4) (lo hi : BitVec 32) (b : Fin 4) :
    byteOf (joined k lo hi) b.val = joined8 k (byteOf lo b.val) (byteOf hi b.val) := by
  apply BitVec.eq_of_getLsbD_eq
  intro i hi'
  rw [getLsbD_byteOf _ _ _ hi']
  unfold joined joined8 loMove hiMove
  fin_cases k <;> fin_cases b <;> interval_cases i <;>
    simp [byteOf, BitVec.getLsbD_extractLsb']

/-- The low plane's part of a byte is four times the four bits; -/
theorem lo_part : ∀ (k : Fin 4) (lo : BitVec 8), loMove k lo &&& 60#8 = BitVec.ofNat 8 (4 * nibble k lo) := by
  have h : ∀ (k : Fin 4) (n : Fin 256), loMove k (BitVec.ofFin n) &&& 60#8 = BitVec.ofNat 8 (4 * nibble k (BitVec.ofFin n)) := by
    decide +kernel
  intro k lo
  exact h k lo.toFin
/-- the high plane's is the two bits, the upper one flipped, in the two upper places. -/
theorem hi_part : ∀ (k : Fin 4) (hi : BitVec 8), hiMove k (hi ^^^ 170#8) &&& 192#8 = BitVec.ofNat 8 (64 * (pair k hi ^^^ 2)) := by
  have h : ∀ (k : Fin 4) (n : Fin 256),
      hiMove k (BitVec.ofFin n ^^^ 170#8) &&& 192#8 = BitVec.ofNat 8 (64 * (pair k (BitVec.ofFin n) ^^^ 2)) := by
    decide +kernel
  intro k hi
  exact h k hi.toFin

theorem join_toInt : ∀ (n : Fin 16) (h : Fin 4),
    (BitVec.ofNat 8 (4 * n.val) ||| BitVec.ofNat 8 (64 * (h.val ^^^ 2))).toInt = 4 * (((n.val + 16 * h.val : ℕ) : ℤ) - 32) := by
  decide +kernel

/-- The kernel's byte, read as a signed integer, is four times the code. -/
theorem joined8_toInt (k : Fin 4) (lo hi : BitVec 8) : (joined8 k lo hi).toInt = 4 * code k lo hi := by
  unfold joined8 code
  rw [lo_part, hi_part]
  exact join_toInt ⟨nibble k lo, nibble_lt k lo⟩ ⟨pair k hi, pair_lt k hi⟩

/-! ## Bytes and words of a column -/

/-- Byte `b` of the word at row `a` is the byte at row `4 a + b`. -/
theorem byteOf_bitcast {R r n : ℕ} (x : (⟨2, ![R, n]⟩ : Shape).Idx → BitVec 8)
    (h : (⟨2, ![R, n]⟩ : Shape).Bitcasts 8 ⟨2, ![r, n]⟩ 32) (a : Fin r) (l : Fin n) (b : Fin 4) (p : Fin R)
    (hp : p.val = 4 * a.val + b.val) :
    byteOf (bitcast ⟨2, ![r, n]⟩ 32 x h (ValueIdx.ix2 a l)) b.val = x (ValueIdx.ix2 p l) := by
  have hb := b.isLt
  apply BitVec.eq_of_getLsbD_eq
  intro i hi
  rw [getLsbD_byteOf _ _ _ hi, bitcast_8_32_getLsbD_ix2 x h a l (8 * b.val + i) (by omega) p (by omega)]
  congr 1
  omega

/-- The byte at row `p` is byte `b` of the word at row `a`, `p = 4 a + b`. -/
theorem bitcast_byteOf {R r n : ℕ} (x : (⟨2, ![r, n]⟩ : Shape).Idx → BitVec 32)
    (h : (⟨2, ![r, n]⟩ : Shape).Bitcasts 32 ⟨2, ![R, n]⟩ 8) (p : Fin R) (l : Fin n) (a : Fin r) (b : Fin 4)
    (hp : p.val = 4 * a.val + b.val) :
    bitcast ⟨2, ![R, n]⟩ 8 x h (ValueIdx.ix2 p l) = byteOf (x (ValueIdx.ix2 a l)) b.val := by
  have hb := b.isLt
  apply BitVec.eq_of_getLsbD_eq
  intro i hi
  have hrow : (⟨2, ![R, n]⟩ : Shape).row (ValueIdx.ix2 p l) = p.val := rfl
  rw [getLsbD_byteOf _ _ _ hi, bitcast_getLsbD x h _ i hi (by decide)]
  have e : ((⟨2, ![R, n]⟩ : Shape).row (ValueIdx.ix2 p l) * 8 + i) % 32 = 8 * b.val + i := by rw [hrow]; omega
  rw [e]
  congr 2
  funext d
  match d with
  | ⟨0, _⟩ => exact Fin.ext ((h.srcIdx_row _ _ _ ⟨0, Nat.zero_lt_two⟩ rfl).trans (by rw [hrow]; show _ = a.val; omega))
  | ⟨1, _⟩ => exact Fin.ext (h.srcIdx_other _ _ _ ⟨1, Nat.one_lt_two⟩ (by show ¬ 1 + 2 = 2; omega))

/-! ## The reference's word -/

/-- The low bits of a widened byte; -/
theorem ref_lo : ∀ (k : Fin 4) (lo : BitVec 8),
    IntOp.andi (IntOp.shrsi .host (lo.setWidth 32) (BitVec.ofNat 32 (4 * (k.val / 2)))) 15#32 = BitVec.ofNat 32 (nibble k lo) := by
  have h : ∀ (k : Fin 4) (n : Fin 256),
      IntOp.andi (IntOp.shrsi .host ((BitVec.ofFin n : BitVec 8).setWidth 32) (BitVec.ofNat 32 (4 * (k.val / 2)))) 15#32
        = BitVec.ofNat 32 (nibble k (BitVec.ofFin n)) := by
    decide +kernel
  intro k lo
  exact h k lo.toFin
/-- the high bits of one, in their place. -/
theorem ref_hi : ∀ (k : Fin 4) (hi : BitVec 8),
    IntOp.shli .host (IntOp.andi (IntOp.shrsi .host (hi.setWidth 32) (BitVec.ofNat 32 (2 * k.val))) 3#32) 4#32
      = BitVec.ofNat 32 (16 * pair k hi) := by
  have h : ∀ (k : Fin 4) (n : Fin 256),
      IntOp.shli .host (IntOp.andi (IntOp.shrsi .host ((BitVec.ofFin n : BitVec 8).setWidth 32) (BitVec.ofNat 32 (2 * k.val))) 3#32) 4#32
        = BitVec.ofNat 32 (16 * pair k (BitVec.ofFin n)) := by
    decide +kernel
  intro k hi
  exact h k hi.toFin

theorem ref_join : ∀ (n : Fin 16) (h : Fin 4),
    (IntOp.ori (BitVec.ofNat 32 n.val) (BitVec.ofNat 32 (16 * h.val))).toInt = ((n.val + 16 * h.val : ℕ) : ℤ) := by
  decide +kernel

/-- The reference's word, read as a signed integer, is the code with its offset. -/
theorem ref_toInt (k : Fin 4) (lo hi : BitVec 8) :
    (IntOp.ori (IntOp.andi (IntOp.shrsi .host (lo.setWidth 32) (BitVec.ofNat 32 (4 * (k.val / 2)))) 15#32)
      (IntOp.shli .host (IntOp.andi (IntOp.shrsi .host (hi.setWidth 32) (BitVec.ofNat 32 (2 * k.val))) 3#32) 4#32)).toInt
      = code k lo hi + 32 := by
  rw [ref_lo, ref_hi, ref_join ⟨nibble k lo, nibble_lt k lo⟩ ⟨pair k hi, pair_lt k hi⟩]
  unfold code
  exact (sub_add_cancel _ _).symm

end Cert.Proof

end
-- ==== Proof.Tile.lean ====
/-
  WHAT A DECODED TILE HOLDS, over the extended reals: at every place, the code less its offset times the product of the two scales.
  The kernel multiplies four times the code by a quarter of the scale; the four and the quarter cancel, whatever the scale.
-/
module

public import proofs.«01_k».proof.Proof.Code
public import proofs.«01_k».proof.Proof.Dequant
public import Idealize.ShloMosaic.Lib.ValueLayout
public import Idealize.ShloMosaic.Lib.IdealHost

@[expose] public section

noncomputable section

namespace Cert.Proof

open Idealize.ShloMosaic Idealize.ShloMosaic.ValueIdx Cert.KernelIdeal Cert.KernelIdeal.Gen

/-- One weight: the code of the two planes' bytes times the super-block's scale times the sub-block's. -/
def weight (k : Fin 4) (lo hi sc : BitVec 8) (d : EReal) : EReal :=
  ((code k lo hi : ℝ) : EReal) * (d * ((sc.toInt : ℝ) : EReal))

/-- A quarter, as the kernel's constant. -/
theorem ofBits_quarter : Ideal.ofBits .bf16 0x3E80#16 = (((1 : ℝ) / 4 : ℝ) : EReal) := by
  simp [Ideal.ofBits, Ideal.ieee, -EReal.coe_mul]; norm_num
/-- Thirty-two, as the reference's constant. -/
theorem ofBits_thirtytwo : Ideal.ofBits .bf16 0x4200#16 = ((32 : ℝ) : EReal) := by
  simp [Ideal.ofBits, Ideal.ieee, -EReal.coe_mul]; norm_num

/-- Four times a number times a quarter of a scale is the number times the scale, for every extended real scale. -/
theorem four_quarter (q : ℤ) (s : EReal) :
    (((4 * q : ℤ) : ℝ) : EReal) * (s * (((1 : ℝ) / 4 : ℝ) : EReal)) = ((q : ℝ) : EReal) * s := by
  rw [mul_comm s, ← mul_assoc, ← EReal.coe_mul]
  congr 2
  push_cast
  ring

/-- A field's words moved, at an index. -/
theorem loWords_apply (k : Fin 4) (x : IVec S32x1024 32) (a : Fin 16) (l : Fin 1024) (p : Fin 32) (hp : p.val = 16 * (k.val % 2) + a.val) :
    loWords k x (ix2 a l) = loMove k (x (ix2 p l)) := by
  have e := slice2_axis0_apply (16 * (k.val % 2)) x (slices_half ⟨k.val % 2, Nat.mod_lt _ (by decide)⟩) a l p hp
  rw [← e]
  fin_cases k <;> rfl
@[inherit_doc loWords_apply] theorem hiWords_apply (k : Fin 4) (x : IVec S16x1024 32) (a : Fin 16) (l : Fin 1024) :
    hiWords k x (ix2 a l) = hiMove k (x (ix2 a l)) := by
  fin_cases k <;> rfl

/-- A field's codes at an index: four times the code of the two planes' bytes there. -/
theorem codes_apply (k : Fin 4) (ql : Vec Ideal S1x128x1024 .i8) (qh : Vec Ideal S1x64x1024 .i8) (R : Fin 64) (l : Fin 1024)
    (p : Fin 128) (hp : p.val = 64 * (k.val % 2) + R.val) :
    codes (F := Ideal) k (k0_pay10 ql) (k0_pay11 qh) (ix2 R l)
      = (((4 * code k (ql (ix3 (0 : Fin 1) p l)) (qh (ix3 (0 : Fin 1) R l)) : ℤ) : ℝ) : EReal) := by
  have hR := R.isLt
  have hk := k.isLt
  let a : Fin 16 := ⟨R.val / 4, by omega⟩
  let b : Fin 4 := ⟨R.val % 4, by omega⟩
  let p' : Fin 32 := ⟨16 * (k.val % 2) + a.val, by have := a.isLt; omega⟩
  have hRa : R.val = 4 * a.val + b.val := by show R.val = 4 * (R.val / 4) + R.val % 4; omega
  have hpa : p.val = 4 * p'.val + b.val := by show p.val = 4 * (16 * (k.val % 2) + a.val) + b.val; omega
  have hlo : byteOf (k0_pay10 (F := Ideal) ql (ix2 p' l)) b.val = ql (ix3 (0 : Fin 1) p l) :=
    (byteOf_bitcast (shapeCast S128x1024 ql shapeCasts_S1x128x1024_S128x1024) bitcasts_S128x1024_w8_S32x1024_w32 p' l b p hpa).trans
      (shapeCast_1ab_ab_apply ql shapeCasts_S1x128x1024_S128x1024 p l)
  let hw : IVec S16x1024 32 := bitcast S16x1024 32 (shapeCast S64x1024 qh shapeCasts_S1x64x1024_S64x1024) bitcasts_S64x1024_w8_S16x1024_w32
  have hhi : byteOf (hw (ix2 a l)) b.val = qh (ix3 (0 : Fin 1) R l) :=
    (byteOf_bitcast (shapeCast S64x1024 qh shapeCasts_S1x64x1024_S64x1024) bitcasts_S64x1024_w8_S16x1024_w32 a l b R hRa).trans
      (shapeCast_1ab_ab_apply qh shapeCasts_S1x64x1024_S64x1024 R l)
  have hword : ori (andi (loWords k (k0_pay10 (F := Ideal) ql)) (broadcast S16x1024 1010580540#32))
      (andi (hiWords k (k0_pay11 (F := Ideal) qh)) (broadcast S16x1024 3233857728#32)) (ix2 a l)
      = joined k (k0_pay10 (F := Ideal) ql (ix2 p' l)) (hw (ix2 a l)) := by
    show ((loWords k (k0_pay10 (F := Ideal) ql) (ix2 a l)) &&& 1010580540#32)
      ||| ((hiWords k (k0_pay11 (F := Ideal) qh) (ix2 a l)) &&& 3233857728#32) = _
    rw [loWords_apply k _ a l p' rfl, hiWords_apply]
    rfl
  have hbyte := bitcast_byteOf (ori (andi (loWords k (k0_pay10 (F := Ideal) ql)) (broadcast S16x1024 1010580540#32))
      (andi (hiWords k (k0_pay11 (F := Ideal) qh)) (broadcast S16x1024 3233857728#32))) bitcasts_S16x1024_w32_S64x1024_w8 R l a b hRa
  rw [hword, byteOf_joined, hlo, hhi] at hbyte
  rw [← joined8_toInt, ← hbyte]
  rfl

/-- The quarter scales at an index. -/
theorem scales_apply (sc : Vec Ideal S1x16x1024 .i8) (d : Vec Ideal S1x1x1024 .f16) (r : Fin 16) (l : Fin 1024) :
    k0_pay9 (F := Ideal) sc d (ix2 r l)
      = (d (ix3 (0 : Fin 1) (0 : Fin 1) l) * (((sc (ix3 (0 : Fin 1) r l)).toInt : ℝ) : EReal)) * (((1 : ℝ) / 4 : ℝ) : EReal) := by
  have h1 := shapeCast_1ab_ab_apply sc shapeCasts_S1x16x1024_S16x1024 r l
  have h2 := shapeCast_1ab_ab_apply d shapeCasts_S1x1x1024_S1x1024 (0 : Fin 1) l
  have h3 := broadcastTo_1b_ab_apply (extf (F := Ideal) .f32 (shapeCast S1x1024 d shapeCasts_S1x1x1024_S1x1024) bitsLt_f16_f32)
    broadcasts_S1x1024_S16x1024 r l
  rw [← ofBits_quarter, ← h1, ← h2]
  show (broadcastTo S16x1024 (extf (F := Ideal) .f32 (shapeCast S1x1024 d shapeCasts_S1x1x1024_S1x1024) bitsLt_f16_f32)
    broadcasts_S1x1024_S16x1024 (ix2 r l) * _) * _ = _
  rw [h3]
  rfl

/-- A decoded tile at an index. -/
theorem tile1_apply (ql : Vec Ideal S1x128x1024 .i8) (qh : Vec Ideal S1x64x1024 .i8) (sc : Vec Ideal S1x16x1024 .i8)
    (d : Vec Ideal S1x1x1024 .f16) (r : Fin 16) (ρ : Fin 16) (l : Fin 1024) (k : Fin 4) (hk : k.val = r.val / 4)
    (R : Fin 64) (hR : R.val = 16 * (r.val % 4) + ρ.val) (p : Fin 128) (hp : p.val = 64 * (k.val % 2) + R.val) :
    tile1 (F := Ideal) ql qh sc d r (ix2 ρ l)
      = weight k (ql (ix3 (0 : Fin 1) p l)) (qh (ix3 (0 : Fin 1) R l)) (sc (ix3 (0 : Fin 1) r l)) (d (ix3 (0 : Fin 1) (0 : Fin 1) l)) := by
  have hr : (⟨r.val / 4, by have := r.isLt; omega⟩ : Fin 4) = k := Fin.ext hk.symm
  unfold tile1 scaled weight
  rw [hr]
  rw [shapeCast_self]
  have h1 := slice2_axis0_apply (16 * (r.val % 4)) (codes (F := Ideal) k (k0_pay10 ql) (k0_pay11 qh))
    (slices_sub ⟨r.val % 4, Nat.mod_lt _ (by decide)⟩) ρ l R hR
  have h2 := broadcastTo_1b_ab_apply (extractStridedSlice S1x1024 ![r.val, 0] (k0_pay9 (F := Ideal) sc d) (slices_row r))
    broadcasts_S1x1024_S16x1024 ρ l
  have h3 := slice2_axis0_apply r.val (k0_pay9 (F := Ideal) sc d) (slices_row r) (0 : Fin 1) l r rfl
  rw [codes_apply _ _ _ R l p hp] at h1
  rw [shapeCast_self]
  show _ * _ = _
  refine (congrArg₂ (· * ·) h1 (h2.trans (h3.trans (scales_apply sc d r l)))).trans ?_
  exact four_quarter _ _

end Cert.Proof

end
-- ==== Proof.Layer.lean ====
/-
  THE LAYER, over the extended reals: what both programs compute. Weight row `256 n + 64 k + R` of an output column is field `k`'s
  row `R` of super-block `n`; an output element is the sum over the rows of `x` times the weight.
-/
module

public import proofs.«01_k».proof.Proof.Tile

@[expose] public section

noncomputable section

namespace Cert.Proof

open Idealize.ShloMosaic Idealize.ShloMosaic.ValueIdx

/-- The packed planes as arrays of plain shapes. -/
abbrev ArrX : Type := (⟨3, ![3, 2048, 4608]⟩ : Shape).Idx → EReal
@[inherit_doc ArrX] abbrev ArrQl : Type := (⟨3, ![18, 128, 36864]⟩ : Shape).Idx → BitVec 8
@[inherit_doc ArrX] abbrev ArrQh : Type := (⟨3, ![18, 64, 36864]⟩ : Shape).Idx → BitVec 8
@[inherit_doc ArrX] abbrev ArrSc : Type := (⟨3, ![18, 16, 36864]⟩ : Shape).Idx → BitVec 8
@[inherit_doc ArrX] abbrev ArrD : Type := (⟨2, ![18, 36864]⟩ : Shape).Idx → EReal

/-- The weight at row `R` of field `k` of super-block `n`, output column `o`. -/
def fieldWeight (ql : ArrQl) (qh : ArrQh) (sc : ArrSc) (d : ArrD) (n : Fin 18) (k : Fin 4) (R : Fin 64) (o : Fin 36864) : EReal :=
  weight k (ql (ix3 n ⟨64 * (k.val % 2) + R.val, by have := R.isLt; omega⟩ o)) (qh (ix3 n R o))
    (sc (ix3 n ⟨4 * k.val + R.val / 16, by have := R.isLt; have := k.isLt; omega⟩ o)) (d (ix2 n o))

/-- The row of all 4608 that a field's row is. -/
def rowOf (n : Fin 18) (k : Fin 4) (R : Fin 64) : Fin 4608 :=
  ⟨256 * n.val + 64 * k.val + R.val, by have := n.isLt; have := k.isLt; have := R.isLt; omega⟩

/-- One output element. -/
def layer (x : ArrX) (ql : ArrQl) (qh : ArrQh) (sc : ArrSc) (d : ArrD) (b : Fin 3) (s : Fin 2048) (o : Fin 36864) : EReal :=
  ∑ k : Fin 4, ∑ n : Fin 18, ∑ R : Fin 64, x (ix3 b s (rowOf n k R)) * fieldWeight ql qh sc d n k R o

/-- The weight at a row of all 4608. -/
def rowWeight (ql : ArrQl) (qh : ArrQh) (sc : ArrSc) (d : ArrD) (K : Fin 4608) (o : Fin 36864) : EReal :=
  fieldWeight ql qh sc d ⟨K.val / 256, by have := K.isLt; omega⟩ ⟨K.val / 64 % 4, Nat.mod_lt _ (by decide)⟩
    ⟨K.val % 64, Nat.mod_lt _ (by decide)⟩ o

/-- Rows are super-blocks, fields and rows of a field. -/
def rowEquiv : (Fin 4 × Fin 18 × Fin 64) ≃ Fin 4608 where
  toFun p := rowOf p.2.1 p.1 p.2.2
  invFun K := (⟨K.val / 64 % 4, Nat.mod_lt _ (by decide)⟩, ⟨K.val / 256, by have := K.isLt; omega⟩, ⟨K.val % 64, Nat.mod_lt _ (by decide)⟩)
  left_inv := fun ⟨k, n, R⟩ => by
    have := k.isLt; have := n.isLt; have := R.isLt
    refine Prod.ext (Fin.ext ?_) (Prod.ext (Fin.ext ?_) (Fin.ext ?_))
    · show (256 * n.val + 64 * k.val + R.val) / 64 % 4 = k.val; omega
    · show (256 * n.val + 64 * k.val + R.val) / 256 = n.val; omega
    · show (256 * n.val + 64 * k.val + R.val) % 64 = R.val; omega
  right_inv K := Fin.ext (by
    show 256 * (K.val / 256) + 64 * (K.val / 64 % 4) + K.val % 64 = K.val; omega)

/-- An output element as one sum over all the rows. -/
theorem layer_eq_rows (x : ArrX) (ql : ArrQl) (qh : ArrQh) (sc : ArrSc) (d : ArrD) (b : Fin 3) (s : Fin 2048) (o : Fin 36864) :
    ∑ K : Fin 4608, x (ix3 b s K) * rowWeight ql qh sc d K o = layer x ql qh sc d b s o := by
  unfold layer
  rw [← Equiv.sum_comp rowEquiv, Fintype.sum_prod_type]
  refine Finset.sum_congr rfl fun k _ => ?_
  rw [Fintype.sum_prod_type]
  refine Finset.sum_congr rfl fun n _ => Finset.sum_congr rfl fun R _ => ?_
  have e := rowEquiv.left_inv (k, n, R)
  show x (ix3 b s (rowOf n k R)) * fieldWeight ql qh sc d (rowEquiv.invFun (rowEquiv.toFun (k, n, R))).2.1
    (rowEquiv.invFun (rowEquiv.toFun (k, n, R))).1 (rowEquiv.invFun (rowEquiv.toFun (k, n, R))).2.2 o = _
  rw [e]

end Cert.Proof

end
-- ==== Proof.KernelValue.lean ====
/-
  WHAT THE KERNEL COMPUTES, over the extended reals: the layer. The decoded column tile is the weights of its columns; an output
  block is its rows of `x` times the tile; the blocks written back cover the output; a host line reshapes it.
-/
module

public import proofs.«01_k».proof.Proof.Run
public import proofs.«01_k».proof.Proof.Blocks
public import proofs.«01_k».proof.Proof.Layer
public import Idealize.ShloMosaic.Lib.MatmulPlain

@[expose] public section

noncomputable section

namespace Cert.Proof

open Cert.KernelIdeal Cert.KernelIdeal.Gen
open Idealize.ShloMosaic Idealize.ShloMosaic.TcCoe

variable (m : (ℓ : Loc nD τ sig) → Buf (Elt Ideal) ℓ) (c : Dev nD)

/-- The arguments as launched. -/
abbrev argX : ArrX := m ((c : Thread nD τ).loc main_arg0)
@[inherit_doc argX] abbrev argQl : ArrQl := m ((c : Thread nD τ).loc main_arg1)
@[inherit_doc argX] abbrev argQh : ArrQh := m ((c : Thread nD τ).loc main_arg2)
@[inherit_doc argX] abbrev argSc : ArrSc := m ((c : Thread nD τ).loc main_arg3)
@[inherit_doc argX] abbrev argD : ArrD := m ((c : Thread nD τ).loc main_arg4)

/-- Column tile `j`'s scratch holds the weights of columns `1024 j … 1024 j + 1023`. -/
theorem decoded_apply (j : ℕ) (hj : j < 36) (K : Fin 4608) (l : Fin 1024) :
    decoded m c j (ValueIdx.ix2 K l)
      = rowWeight (argQl m c) (argQh m c) (argSc m c) (argD m c) K ⟨1024 * j + l.val, by have := l.isLt; omega⟩ := by
  have hK := K.isLt
  have hl := l.isLt
  let t : Fin cfg0.N := pointOf (6 * j + K.val / 768)
  have htv : t.val = 6 * j + K.val / 768 := by show min (6 * j + K.val / 768) 221 = _; omega
  have ht6 : t.val / 6 = j := by omega
  have htm : t.val % 6 = K.val / 768 := by omega
  have hmin : min (t.val / 6) 35 = j := by omega
  let g : Fin 3 := ⟨K.val % 768 / 16 / 16, by omega⟩
  let r : Fin 16 := ⟨K.val % 768 / 16 % 16, by omega⟩
  let ρ : Fin 16 := ⟨K.val % 16, by omega⟩
  let k : Fin 4 := ⟨K.val / 64 % 4, by omega⟩
  let R : Fin 64 := ⟨K.val % 64, by omega⟩
  let p : Fin 128 := ⟨64 * (k.val % 2) + R.val, by have := R.isLt; omega⟩
  have hk : k.val = r.val / 4 := by show K.val / 64 % 4 = K.val % 768 / 16 % 16 / 4; omega
  have hR : R.val = 16 * (r.val % 4) + ρ.val := by show K.val % 64 = 16 * (K.val % 768 / 16 % 16 % 4) + K.val % 16; omega
  show tile1 (sbQl (iblk m c 1 t) g) (sbQh (iblk m c 2 t) g) (sbSc (iblk m c 3 t) g) (sbD (iblk m c 4 t) g) r (ValueIdx.ix2 ρ l) = _
  rw [tile1_apply _ _ _ _ r ρ l k hk R hR p rfl]
  unfold rowWeight fieldWeight
  have hn : K.val / 256 = 3 * (t.val % 6) + g.val := by rw [htm]; show K.val / 256 = 3 * (K.val / 768) + K.val % 768 / 16 / 16; omega
  have hr : r.val = 4 * k.val + R.val / 16 := by show K.val % 768 / 16 % 16 = 4 * (K.val / 64 % 4) + K.val % 64 / 16; omega
  refine congr (congr (congr (congrArg (weight k) ?_) ?_) ?_) ?_
  · refine blk1 m c t _ _ ?_ ?_ ?_
    · show K.val / 256 = 3 * (t.val % 6) + (g.val + 1 * 0); omega
    · show 64 * (k.val % 2) + R.val = 0 + 1 * (64 * (k.val % 2) + R.val); omega
    · show 1024 * j + l.val = 1024 * min (t.val / 6) 35 + (0 + 1 * l.val); omega
  · refine blk2 m c t _ _ ?_ ?_ ?_
    · show K.val / 256 = 3 * (t.val % 6) + (g.val + 1 * 0); omega
    · show R.val = 0 + 1 * R.val; omega
    · show 1024 * j + l.val = 1024 * min (t.val / 6) 35 + (0 + 1 * l.val); omega
  · refine blk3 m c t _ _ ?_ ?_ ?_
    · show K.val / 256 = 3 * (t.val % 6) + (g.val + 1 * 0); omega
    · show 4 * k.val + R.val / 16 = 0 + 1 * r.val; omega
    · show 1024 * j + l.val = 1024 * min (t.val / 6) 35 + (0 + 1 * l.val); omega
  · refine blk4 m c t _ _ ?_ ?_
    · show K.val / 256 = 3 * (t.val % 6) + (g.val + 1 * 0); omega
    · show 1024 * j + l.val = 1024 * min (t.val / 6) 35 + (0 + 1 * l.val); omega

/-- A block's product at an index. -/
theorem product_apply (x : Vec Ideal S1024x4608 .bf16) (w : Vec Ideal S4608x1024 .bf16) (r l : Fin 1024) :
    product (F := Ideal) x w (ValueIdx.ix2 r l) = ∑ K : Fin 4608, x (ValueIdx.ix2 r K) * w (ValueIdx.ix2 K l) := by
  have h := Ideal.matmul_plain_apply (φ₁ := .bf16) (φ₂ := .bf16) none (shapeCast S1024x4608 x shapeCasts_S1024x4608_S1024x4608) w
    (constant (F := Ideal) S1024x1024 .f32 0x00000000#32) r l
  have z : constant (F := Ideal) S1024x1024 .f32 0x00000000#32 (ValueIdx.ix2 r l) = (0 : EReal) := Ideal.ofBits_zero_f32
  rw [z, zero_add] at h
  rw [shapeCast_self] at h
  refine Eq.trans ?_ h
  unfold product k0_pay5
  rw [shapeCast_self]
  rfl

/-- What the output array holds after the run. -/
def out2 : Buf (Elt Ideal) ((c : Thread nD τ).loc main_v2) := fun (i : S6144x36864.Idx) =>
  layer (argX m c) (argQl m c) (argQh m c) (argSc m c) (argD m c)
    ⟨(i 0).val / 2048, by have h : (i 0).val < 6144 := (i 0).isLt; omega⟩ ⟨(i 0).val % 2048, Nat.mod_lt _ (by decide)⟩ (i 1)

/-- The write-backs happen from the second first coordinate on. -/
theorem flush5 (t : Fin cfg0.N) (h : (cfg0.win 5).flush t = true) : ¬ t.val / 6 = 0 := fun e => by
  rw [noflush5 t e] at h; exact Bool.noConfusion h

/-- A block at an index, in the array's terms. -/
theorem outBlock_apply (t : Fin cfg0.N) (ht : ¬ t.val / 6 = 0) (y : S1024x1024.Idx) (i : S6144x36864.Idx)
    (h0 : (i 0).val = 1024 * (t.val % 6) + (y 0).val) (h1 : (i 1).val = 1024 * (t.val / 6 - 1) + (y 1).val) :
    outBlock m c t y = out2 m c i := by
  have hN : t.val < 222 := Nat.lt_of_lt_of_eq t.isLt N_0
  have hy1 : (y 1).val < 1024 := (y 1).isLt
  have hy0 : (y 0).val < 1024 := (y 0).isLt
  rw [ValueIdx.eq_ix2 y]
  refine (product_apply (iblk m c 0 t) (decoded m c (t.val / 6 - 1)) (y 0) (y 1)).trans ?_
  refine Eq.trans ?_ (layer_eq_rows (argX m c) (argQl m c) (argQh m c) (argSc m c) (argD m c)
    ⟨(i 0).val / 2048, by have h : (i 0).val < 6144 := (i 0).isLt; omega⟩ ⟨(i 0).val % 2048, Nat.mod_lt _ (by decide)⟩ (i 1))
  refine Finset.sum_congr rfl fun K _ => congrArg₂ (· * ·) ?_ ?_
  · exact blk0 m c t ht _ _ (by show 2048 * ((i 0).val / 2048) + (i 0).val % 2048 = 1024 * (t.val % 6) + (y 0).val; omega) rfl
  · refine (decoded_apply m c (t.val / 6 - 1) (by omega) K (y 1)).trans ?_
    exact congrArg (rowWeight (argQl m c) (argQh m c) (argSc m c) (argD m c) K) (Fin.ext h1.symm)

/-- The output array after the run. -/
theorem arr5 : (dats m 0 c).arrAt 5 (cfgs 0).N = out2 m c := by
  refine (dats m 0 c).arrAt_eq_of_covers 5 _ (by decide +kernel) fun t hf y => ?_
  have ht := flush5 t hf
  have e := index5 t
  rw [if_neg ht] at e
  blk_simp
  rw [after5]
  refine outBlock_apply m c t ht y _ ?_ ?_
  · blk_simp [e]; omega
  · blk_simp [e]; omega

/-- What the result holds: the layer at every index. -/
def out : Buf (Elt Ideal) ((c : Thread nD τ).loc main_v3) := fun (i : S3x2048x36864.Idx) =>
  layer (argX m c) (argQl m c) (argQh m c) (argSc m c) (argD m c) (i 0) (i 1) (i 2)

/-- The result after the run: the output array reshaped. -/
theorem tail_v3 : Pipeline.afterTail₀ cfgs (dats m) 0 (V0 m) [hostOps1] c main_v3 = out m c := by
  have e2 : Pipeline.withArrays spec0 c (V0 m c) (fun w => (dats m 0 c).arrAt w (cfgs 0).N) (Proc.devRef .tc main_v2) = out2 m c :=
    (Pipeline.withArrays_arr spec0 launch0.win.arr_inj c (V0 m c) (fun w => (dats m 0 c).arrAt w (cfgs 0).N) 5).trans (arr5 m c)
  have e3 : Pipeline.afterTail₀ cfgs (dats m) 0 (V0 m) [hostOps1] c main_v3
      = shapeCast S3x2048x36864 (Pipeline.withArrays spec0 c (V0 m c) (fun w => (dats m 0 c).arrAt w (cfgs 0).N) (Proc.devRef .tc main_v2))
          shapeCasts_S6144x36864_S3x2048x36864 := rfl
  rw [e3, e2]
  funext i
  have h0 : (i 0).val < 3 := (i 0).isLt
  have h1 : (i 1).val < 2048 := (i 1).isLt
  let q : S6144x36864.Idx := ValueIdx.ix2 ⟨2048 * (i 0).val + (i 1).val, by omega⟩ (i 2)
  refine (shapeCast_apply (out2 m c) shapeCasts_S6144x36864_S3x2048x36864 i q ?_).trans ?_
  · show (S6144x36864.rowMajor q).val = (S3x2048x36864.rowMajor i).val
    rewrite [Shape.rowMajor_val_two, Shape.rowMajor_val_three]
    show (2048 * (i 0).val + (i 1).val) * 36864 + (i 2).val = ((i 0).val * 2048 + (i 1).val) * 36864 + (i 2).val
    omega
  · refine congrArg₂ (fun (b : Fin 3) (s : Fin 2048) => layer (argX m c) (argQl m c) (argQh m c) (argSc m c) (argD m c) b s (i 2)) (Fin.ext ?_) (Fin.ext ?_)
    · show (2048 * (i 0).val + (i 1).val) / 2048 = (i 0).val; omega
    · show (2048 * (i 0).val + (i 1).val) % 2048 = (i 1).val; omega

/-- THE KERNEL'S VALUE: it ends with the layer in its result and its arguments as they were. -/
theorem kernel_value (ρ : Dev nD → PrngReg) : θ_run defs (onTc (τ := τ) (main (F := Ideal))) ⟨m, fun _ => 0, ρ⟩ (fun r => ∀ c : Dev nD,
      r.2.mem ((c.tc : Thread nD τ).loc main_v3) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).2 main_v3 (Pipeline.mem_restRefs_of main_v3 (by decide) (by decide))).trans (tail_v3 m c),
    h.2.1 c⟩) (θ_run_and (run_main m ρ) (frame m ρ))

end Cert.Proof

end
-- ==== Proof.RefField.lean ====
/-
  ONE FIELD OF THE REFERENCE, over the extended reals. The four fields' operations are the same but for where they slice and how far
  they shift; here they are written once, over the field, and read at an index.
-/
module

public import proofs.«01_k».proof.Proof.Gen.ReferenceIdeal.Read
public import proofs.«01_k».proof.Proof.Layer
public import Idealize.ShloMosaic.Lib.MatmulPlain
public import Idealize.ShloMosaic.Lib.Pipeline.Value

@[expose] public section

noncomputable section

namespace Cert.Proof

open Cert.ReferenceIdeal Cert.ReferenceIdeal.Gen
open Idealize.ShloMosaic
open ValueIdx (ix4 ix5 contrEquiv2 contrEquiv2_symm_val0 contrEquiv2_symm_val1)

/-- The slices a field takes: its rows of the low plane, of the scales, and of `x`. -/
theorem slices_ql (k : Fin 4) : S18x128x36864.Slices ![0, 64 * (k.val % 2), 0] S18x64x36864 := by revert k; decide
@[inherit_doc slices_ql] theorem slices_sc (k : Fin 4) : S18x16x36864.Slices ![0, 4 * k.val, 0] S18x4x36864 := by revert k; decide
@[inherit_doc slices_ql] theorem slices_x (k : Fin 4) : S3x2048x18x4x64.Slices ![0, 0, 0, k.val, 0] S3x2048x18x1x64 := by
  revert k; decide

/-- An integer, or a float constant, at every place of a field. -/
def splatI (b : BitVec 32) : IVec S18x64x36864 32 := broadcastInDim S18x64x36864 ![] bcast_S_S18x64x36864 (constantI S_ 32 b)
@[inherit_doc splatI] def splat32 : FVec Ideal S18x64x36864 .bf16 :=
  broadcastInDim S18x64x36864 ![] bcast_S_S18x64x36864 (constant (F := Ideal) S_ .bf16 0x4200#16)

/-- A field's codes, as the reference computes them: the nibble and the pair joined, less 32. -/
def refCodes (k : Fin 4) (x1 : IVec S18x128x36864 8) (x2 : IVec S18x64x36864 8) : FVec Ideal S18x64x36864 .bf16 :=
  subf (sitofp .bf16 (ori
    (andi (Host.shrsi (extractStridedSlice S18x64x36864 ![0, 64 * (k.val % 2), 0] (extui 32 x1 natLt_8_32) (slices_ql k))
      (splatI (BitVec.ofNat 32 (4 * (k.val / 2))))) (splatI 15#32))
    (Host.shli (andi (Host.shrsi (extui 32 x2 natLt_8_32) (splatI (BitVec.ofNat 32 (2 * k.val)))) (splatI 3#32)) (splatI 4#32))))
    splat32
/-- A field's scales, one to sixteen rows. -/
def refScales (k : Fin 4) (r0 : FVec Ideal S18x16x36864 .bf16) : FVec Ideal S18x4x16x36864 .bf16 :=
  broadcastInDim S18x4x16x36864 ![0, 1, 2, 3] bcast_S18x4x1x36864_S18x4x16x36864_0_1_2_3
    (broadcastInDim S18x4x1x36864 ![0, 1, 3] bcast_S18x4x36864_S18x4x1x36864_0_1_3
      (extractStridedSlice S18x4x36864 ![0, 4 * k.val, 0] r0 (slices_sc k)))
/-- A field's weights. -/
def refWeights (k : Fin 4) (x1 : IVec S18x128x36864 8) (x2 : IVec S18x64x36864 8) (r0 : FVec Ideal S18x16x36864 .bf16) :
    FVec Ideal S18x64x36864 .bf16 :=
  shapeCast S18x64x36864 (mulf (shapeCast S18x4x16x36864 (refCodes k x1 x2) shapeCasts_S18x64x36864_S18x4x16x36864) (refScales k r0))
    shapeCasts_S18x4x16x36864_S18x64x36864
/-- A field's columns of `x`. -/
def refX (k : Fin 4) (x0 : FVec Ideal S3x2048x4608 .bf16) : FVec Ideal S3x2048x18x64 .bf16 :=
  shapeCast S3x2048x18x64 (extractStridedSlice S3x2048x18x1x64 ![0, 0, 0, k.val, 0]
    (shapeCast S3x2048x18x4x64 x0 shapeCasts_S3x2048x4608_S3x2048x18x4x64) (slices_x k)) shapeCasts_S3x2048x18x1x64_S3x2048x18x64
/-- A field's product. -/
def refDot (k : Fin 4) (x0 : FVec Ideal S3x2048x4608 .bf16) (x1 : IVec S18x128x36864 8) (x2 : IVec S18x64x36864 8)
    (r0 : FVec Ideal S18x16x36864 .bf16) : FVec Ideal S3x2048x36864 .f32 :=
  Host.dotGeneral dot_S3x2048x18x64_S18x64x36864_S3x2048x36864_23_01_01_2_n_n none (refX k x0) (refWeights k x1 x2 r0)

/-- The reference is the four fields' products added. -/
theorem ref_eq (x0 : FVec Ideal S3x2048x4608 .bf16) (x1 : IVec S18x128x36864 8) (x2 : IVec S18x64x36864 8)
    (r0 : FVec Ideal S18x16x36864 .bf16) :
    Read.val_main_v103 (F := Ideal) x0 x1 x2 r0
      = truncf .bf16 (addf (addf (addf (refDot 0 x0 x1 x2 r0) (refDot 1 x0 x1 x2 r0)) (refDot 2 x0 x1 x2 r0)) (refDot 3 x0 x1 x2 r0))
          bitsLt_bf16_f32 := rfl

/-- Either, at an index. -/
theorem splatI_apply (b : BitVec 32) (i : S18x64x36864.Idx) : splatI b i = b := rfl
@[inherit_doc splatI_apply] theorem splat32_apply (i : S18x64x36864.Idx) : splat32 i = ((32 : ℝ) : EReal) := ofBits_thirtytwo

/-- A field's codes at an index. -/
theorem refCodes_apply (k : Fin 4) (x1 : IVec S18x128x36864 8) (x2 : IVec S18x64x36864 8) (i : S18x64x36864.Idx)
    (p : S18x128x36864.Idx) (p0 : (p 0).val = (i 0).val) (p1 : (p 1).val = 64 * (k.val % 2) + (i 1).val) (p2 : (p 2).val = (i 2).val) :
    refCodes k x1 x2 i = (((code k (x1 p) (x2 i) : ℤ) : ℝ) : EReal) := by
  have hs : extractStridedSlice S18x64x36864 ![0, 64 * (k.val % 2), 0] (extui 32 x1 natLt_8_32) (slices_ql k) i
      = (x1 p).setWidth 32 :=
    extractStridedSlice_apply ![0, 64 * (k.val % 2), 0] (extui 32 x1 natLt_8_32) (slices_ql k) i p (fun a => match a with
      | ⟨0, _⟩ => by show (p 0).val = 0 + (i 0).val; omega
      | ⟨1, _⟩ => by show (p 1).val = 64 * (k.val % 2) + (i 1).val; exact p1
      | ⟨2, _⟩ => by show (p 2).val = 0 + (i 2).val; omega)
  have h := ref_toInt k (x1 p) (x2 i)
  have e : refCodes k x1 x2 i = ((((IntOp.ori (IntOp.andi (IntOp.shrsi .host
      (extractStridedSlice S18x64x36864 ![0, 64 * (k.val % 2), 0] (extui 32 x1 natLt_8_32) (slices_ql k) i)
      (BitVec.ofNat 32 (4 * (k.val / 2)))) 15#32) (IntOp.shli .host (IntOp.andi (IntOp.shrsi .host ((x2 i).setWidth 32)
      (BitVec.ofNat 32 (2 * k.val))) 3#32) 4#32)).toInt : ℝ) : EReal) - splat32 i : EReal) := rfl
  rw [e, hs, h, splat32_apply, ← EReal.coe_sub]
  congr 1
  push_cast
  ring

/-- A field's scales at an index. -/
theorem refScales_apply (k : Fin 4) (r0 : FVec Ideal S18x16x36864 .bf16) (i : S18x4x16x36864.Idx) (p : S18x16x36864.Idx)
    (p0 : (p 0).val = (i 0).val) (p1 : (p 1).val = 4 * k.val + (i 1).val) (p2 : (p 2).val = (i 3).val) :
    refScales k r0 i = r0 p := by
  let y3 : FVec Ideal S18x4x36864 .bf16 := extractStridedSlice S18x4x36864 ![0, 4 * k.val, 0] r0 (slices_sc k)
  let y4 : FVec Ideal S18x4x1x36864 .bf16 := broadcastInDim S18x4x1x36864 ![0, 1, 3] bcast_S18x4x36864_S18x4x1x36864_0_1_3 y3
  let i4 : S18x4x1x36864.Idx := ix4 (i 0) (i 1) (0 : Fin 1) (i 3)
  let i3 : S18x4x36864.Idx := ValueIdx.ix3 (i 0) (i 1) (i 3)
  have h1 : refScales k r0 i = y4 i4 :=
    broadcastInDim_apply _ bcast_S18x4x1x36864_S18x4x16x36864_0_1_2_3 y4 i i4 (fun a => match a with
      | ⟨0, _⟩ => by show (i 0).val = if (18 : Nat) = 1 then 0 else (i 0).val; rw [if_neg (by decide)]
      | ⟨1, _⟩ => by show (i 1).val = if (4 : Nat) = 1 then 0 else (i 1).val; rw [if_neg (by decide)]
      | ⟨2, _⟩ => by show 0 = if (1 : Nat) = 1 then 0 else (i 2).val; rw [if_pos rfl]
      | ⟨3, _⟩ => by show (i 3).val = if (36864 : Nat) = 1 then 0 else (i 3).val; rw [if_neg (by decide)])
  have h2 : y4 i4 = y3 i3 :=
    broadcastInDim_apply _ bcast_S18x4x36864_S18x4x1x36864_0_1_3 y3 i4 i3 (fun a => match a with
      | ⟨0, _⟩ => by show (i 0).val = if (18 : Nat) = 1 then 0 else (i 0).val; rw [if_neg (by decide)]
      | ⟨1, _⟩ => by show (i 1).val = if (4 : Nat) = 1 then 0 else (i 1).val; rw [if_neg (by decide)]
      | ⟨2, _⟩ => by show (i 3).val = if (36864 : Nat) = 1 then 0 else (i 3).val; rw [if_neg (by decide)])
  have h3 : y3 i3 = r0 p :=
    extractStridedSlice_apply ![0, 4 * k.val, 0] r0 (slices_sc k) i3 p (fun a => match a with
      | ⟨0, _⟩ => by show (p 0).val = 0 + (i 0).val; omega
      | ⟨1, _⟩ => by show (p 1).val = 4 * k.val + (i 1).val; exact p1
      | ⟨2, _⟩ => by show (p 2).val = 0 + (i 3).val; omega)
  exact h1.trans (h2.trans h3)

/-- A field's weights at an index: the layer's, where the scales array holds the products of the scales. -/
theorem refWeights_apply (k : Fin 4) (x1 : IVec S18x128x36864 8) (x2 : IVec S18x64x36864 8) (sc : IVec S18x16x36864 8)
    (d : FVec Ideal S18x36864 .f16) (r0 : FVec Ideal S18x16x36864 .bf16)
    (hr : ∀ i : S18x16x36864.Idx, r0 i = (d (ValueIdx.ix2 (i 0) (i 2)) * (((sc i).toInt : ℝ) : EReal) : EReal))
    (n : Fin 18) (R : Fin 64) (o : Fin 36864) :
    refWeights k x1 x2 r0 (ValueIdx.ix3 n R o) = fieldWeight x1 x2 sc d n k R o := by
  have hR := R.isLt
  have hk := k.isLt
  let i3 : S18x64x36864.Idx := ValueIdx.ix3 n R o
  let i4 : S18x4x16x36864.Idx := ix4 n (⟨R.val / 16, by omega⟩ : Fin 4) (⟨R.val % 16, by omega⟩ : Fin 16) o
  have hpos : (S18x64x36864.rowMajor i3).val = (S18x4x16x36864.rowMajor i4).val := by
    rewrite [Shape.rowMajor_val_three, Shape.rowMajor_val_four]
    show (n.val * 64 + R.val) * 36864 + o.val = ((n.val * 4 + R.val / 16) * 16 + R.val % 16) * 36864 + o.val
    omega
  have h1 : refWeights k x1 x2 r0 i3
      = (shapeCast S18x4x16x36864 (refCodes k x1 x2) shapeCasts_S18x64x36864_S18x4x16x36864 i4 * refScales k r0 i4 : EReal) :=
    shapeCast_apply (mulf (shapeCast S18x4x16x36864 (refCodes k x1 x2) shapeCasts_S18x64x36864_S18x4x16x36864) (refScales k r0))
      shapeCasts_S18x4x16x36864_S18x64x36864 i3 i4 hpos.symm
  have h2 := shapeCast_apply (refCodes k x1 x2) shapeCasts_S18x64x36864_S18x4x16x36864 i4 i3 hpos
  have h3 := refCodes_apply k x1 x2 i3 (ValueIdx.ix3 n ⟨64 * (k.val % 2) + R.val, by omega⟩ o) rfl rfl rfl
  have h4 := refScales_apply k r0 i4 (ValueIdx.ix3 n ⟨4 * k.val + R.val / 16, by omega⟩ o) rfl rfl rfl
  refine h1.trans ?_
  rw [h2, h3, h4, hr]
  rfl

/-- The slice of a field, at an index. -/
theorem sliceX_apply (k : Fin 4) (y : FVec Ideal S3x2048x18x4x64 .bf16) (b : Fin 3) (s : Fin 2048) (n : Fin 18) (R : Fin 64) :
    extractStridedSlice S3x2048x18x1x64 ![0, 0, 0, k.val, 0] y (slices_x k) (ix5 b s n (0 : Fin 1) R) = y (ix5 b s n k R) := by
  refine extractStridedSlice_apply ![0, 0, 0, k.val, 0] y (slices_x k) _ _ fun a => ?_
  match a with
  | ⟨0, _⟩ => show b.val = 0 + b.val; omega
  | ⟨1, _⟩ => show s.val = 0 + s.val; omega
  | ⟨2, _⟩ => show n.val = 0 + n.val; omega
  | ⟨3, _⟩ => show k.val = k.val + 0; omega
  | ⟨4, _⟩ => show R.val = 0 + R.val; omega

/-- A field's columns of `x` at an index. -/
theorem refX_apply (k : Fin 4) (x0 : FVec Ideal S3x2048x4608 .bf16) (b : Fin 3) (s : Fin 2048) (n : Fin 18) (R : Fin 64) :
    refX k x0 (ix4 b s n R) = x0 (ValueIdx.ix3 b s (rowOf n k R)) := by
  let y5 : FVec Ideal S3x2048x18x4x64 .bf16 := shapeCast S3x2048x18x4x64 x0 shapeCasts_S3x2048x4608_S3x2048x18x4x64
  let y1 : FVec Ideal S3x2048x18x1x64 .bf16 := extractStridedSlice S3x2048x18x1x64 ![0, 0, 0, k.val, 0] y5 (slices_x k)
  let i4 : S3x2048x18x64.Idx := ix4 b s n R
  let i1 : S3x2048x18x1x64.Idx := ix5 b s n (0 : Fin 1) R
  let i5 : S3x2048x18x4x64.Idx := ix5 b s n k R
  let i0 : S3x2048x4608.Idx := ValueIdx.ix3 b s (rowOf n k R)
  have h1 : refX k x0 i4 = y1 i1 := shapeCast_apply y1 shapeCasts_S3x2048x18x1x64_S3x2048x18x64 i4 i1 (by
    rewrite [Shape.rowMajor_val_five, Shape.rowMajor_val_four]
    show (((b.val * 2048 + s.val) * 18 + n.val) * 1 + 0) * 64 + R.val = ((b.val * 2048 + s.val) * 18 + n.val) * 64 + R.val
    omega)
  have h2 : y1 i1 = y5 i5 := sliceX_apply k y5 b s n R
  have h3 : y5 i5 = x0 i0 := shapeCast_apply x0 shapeCasts_S3x2048x4608_S3x2048x18x4x64 i5 i0 (by
    rewrite [Shape.rowMajor_val_three, Shape.rowMajor_val_five]
    show (b.val * 2048 + s.val) * 4608 + (256 * n.val + 64 * k.val + R.val)
      = (((b.val * 2048 + s.val) * 18 + n.val) * 4 + k.val) * 64 + R.val
    omega)
  exact h1.trans (h2.trans h3)

/-- The product over super-blocks and rows of a field, at an index. -/
theorem dot_apply (L : FVec Ideal S3x2048x18x64 .bf16) (W : FVec Ideal S18x64x36864 .bf16) (b : Fin 3) (s : Fin 2048) (o : Fin 36864) :
    Host.dotGeneral (F := Ideal) dot_S3x2048x18x64_S18x64x36864_S3x2048x36864_23_01_01_2_n_n none L W (ValueIdx.ix3 b s o)
      = (∑ n : Fin 18, ∑ R : Fin 64, L (ix4 b s n R) * W (ValueIdx.ix3 n R o) : EReal) := by
  let D := dot_S3x2048x18x64_S18x64x36864_S3x2048x36864_23_01_01_2_n_n
  have hr : D.contr.rank = 2 := rfl
  have c0 : D.contr.size ⟨0, by rw [hr]; omega⟩ = 18 := rfl
  have c1 : D.contr.size ⟨1, by rw [hr]; omega⟩ = 64 := rfl
  refine (Ideal.dotGeneral_apply D none _ L W (ValueIdx.ix3 b s o)).trans ?_
  rw [← Equiv.sum_comp (contrEquiv2 D 18 64 hr c0 c1).symm, Fintype.sum_prod_type]
  refine Finset.sum_congr rfl fun n _ => Finset.sum_congr rfl fun R _ => ?_
  have h0 := contrEquiv2_symm_val0 D 18 64 hr c0 c1 (n, R)
  have h1 := contrEquiv2_symm_val1 D 18 64 hr c0 c1 (n, R)
  have el : D.lhsIdx (ValueIdx.ix3 b s o) ((contrEquiv2 D 18 64 hr c0 c1).symm (n, R)) = ix4 b s n R := by
    funext a; apply Fin.ext
    match a with
    | ⟨0, _⟩ => rfl
    | ⟨1, _⟩ => rfl
    | ⟨2, _⟩ => exact h0
    | ⟨3, _⟩ => exact h1
  have er : D.rhsIdx (ValueIdx.ix3 b s o) ((contrEquiv2 D 18 64 hr c0 c1).symm (n, R)) = ValueIdx.ix3 n R o := by
    funext a; apply Fin.ext
    match a with
    | ⟨0, _⟩ => exact h0
    | ⟨1, _⟩ => exact h1
    | ⟨2, _⟩ => rfl
  rw [el, er]

/-- THE REFERENCE IS THE LAYER, where the scales array holds the products of the scales. -/
theorem ref_layer (x0 : FVec Ideal S3x2048x4608 .bf16) (x1 : IVec S18x128x36864 8) (x2 : IVec S18x64x36864 8)
    (sc : IVec S18x16x36864 8) (d : FVec Ideal S18x36864 .f16) (r0 : FVec Ideal S18x16x36864 .bf16)
    (hr : ∀ i : S18x16x36864.Idx, r0 i = (d (ValueIdx.ix2 (i 0) (i 2)) * (((sc i).toInt : ℝ) : EReal) : EReal))
    (b : Fin 3) (s : Fin 2048) (o : Fin 36864) :
    Read.val_main_v103 (F := Ideal) x0 x1 x2 r0 (ValueIdx.ix3 b s o) = layer x0 x1 x2 sc d b s o := by
  have hd (k : Fin 4) : refDot k x0 x1 x2 r0 (ValueIdx.ix3 b s o)
      = (∑ n : Fin 18, ∑ R : Fin 64, x0 (ValueIdx.ix3 b s (rowOf n k R)) * fieldWeight x1 x2 sc d n k R o : EReal) := by
    unfold refDot
    rw [dot_apply]
    refine Finset.sum_congr rfl fun n _ => Finset.sum_congr rfl fun R _ => ?_
    rw [refX_apply, refWeights_apply k x1 x2 sc d r0 hr]
  rw [ref_eq]
  unfold layer
  rw [Fin.sum_univ_four, ← hd 0, ← hd 1, ← hd 2, ← hd 3]
  rfl

end Cert.Proof

end
-- ==== Proof.RefScales.lean ====
/-
  THE REFERENCE'S SCALES, over the extended reals: what its first call leaves, the super-block's scale times the sub-block's.
-/
module

public import proofs.«01_k».proof.Proof.Gen.ReferenceIdeal.Run
public import Idealize.ShloMosaic.Lib.Pipeline.ValueKit
public import Idealize.ShloMosaic.Lib.Pipeline.Value
public import Idealize.ShloMosaic.Lib.Claim
public import Idealize.ShloMosaic.Lib.ValueIdx

@[expose] public section

noncomputable section

namespace Cert.Proof

open Cert.ReferenceIdeal Cert.ReferenceIdeal.Gen
open Idealize.ShloMosaic Idealize.ShloMosaic.TcCoe

variable (m : (ℓ : Loc nD τ sig) → Buf (Elt Ideal) ℓ) (c : Dev nD)

/-- The call's product at an index. -/
theorem scaleOf_apply (sc : Vec Ideal S18x16x36864 .i8) (d : Vec Ideal S18x36864 .f16) (i : S18x16x36864.Idx) :
    k0_pay1 (F := Ideal) sc d i = (d (ValueIdx.ix2 (i 0) (i 2)) * (((sc i).toInt : ℝ) : EReal) : EReal) := by
  let y : FVec Ideal S18x1x36864 .f32 := shapeCast S18x1x36864 (extf (F := Ideal) .f32 d bitsLt_f16_f32) shapeCasts_S18x36864_S18x1x36864
  let q : S18x1x36864.Idx := ValueIdx.ix3 (i 0) (0 : Fin 1) (i 2)
  have hb : broadcastTo S18x16x36864 y broadcasts_S18x1x36864_S18x16x36864 i = y q :=
    broadcastTo_apply y broadcasts_S18x1x36864_S18x16x36864 i q (fun a => match a with
      | ⟨0, _⟩ => by show (i 0).val = if (18 : Nat) = 1 then 0 else (i 0).val; rw [if_neg (by decide)]
      | ⟨1, _⟩ => by show 0 = if (1 : Nat) = 1 then 0 else (i 1).val; rw [if_pos rfl]
      | ⟨2, _⟩ => by show (i 2).val = if (36864 : Nat) = 1 then 0 else (i 2).val; rw [if_neg (by decide)])
  have hs : y q = (extf (F := Ideal) .f32 d bitsLt_f16_f32) (ValueIdx.ix2 (i 0) (i 2)) :=
    shapeCast_apply (extf (F := Ideal) .f32 d bitsLt_f16_f32) shapeCasts_S18x36864_S18x1x36864 q (ValueIdx.ix2 (i 0) (i 2)) (by
      show (S18x36864.rowMajor (ValueIdx.ix2 (i 0) (i 2))).val = (S18x1x36864.rowMajor q).val
      rewrite [Shape.rowMajor_val_two, Shape.rowMajor_val_three]
      show (i 0).val * 36864 + (i 2).val = ((i 0).val * 1 + 0) * 36864 + (i 2).val
      omega)
  show (broadcastTo S18x16x36864 y broadcasts_S18x1x36864_S18x16x36864 i * (((sc i).toInt : ℝ) : EReal) : EReal) = _
  rw [hb, hs]
  rfl

/-- The scales as an array: what the call leaves. -/
def scaleArr : Buf (Elt Ideal) ((c.tc : Thread nD τ).loc main_v0) :=
  k0_pay1 (F := Ideal) (m ((c.tc : Thread nD τ).loc main_arg3)) (m ((c.tc : Thread nD τ).loc main_arg4))

/-- The call's windows are whole arrays. -/
theorem ref_iblk0 (t : Fin cfg0.N) : iblk m c 0 t = m ((c.tc : Thread nD τ).loc main_arg3) := by
  funext y
  exact congrArg (m ((c.tc : Thread nD τ).loc main_arg3)) (funext fun a => Fin.ext (by
    have e : ((((cfg0.win 0).blk t).view.emb y) a : ℕ) = 0 * _ + 1 * (y a).val := rfl
    omega))
@[inherit_doc ref_iblk0] theorem ref_iblk1 (t : Fin cfg0.N) : iblk m c 1 t = m ((c.tc : Thread nD τ).loc main_arg4) := by
  funext y
  exact congrArg (m ((c.tc : Thread nD τ).loc main_arg4)) (funext fun a => Fin.ext (by
    have e : ((((cfg0.win 1).blk t).view.emb y) a : ℕ) = 0 * _ + 1 * (y a).val := rfl
    omega))

/-- What the first call leaves, as the run states it, is that array. -/
theorem reg_scales : Value.reg_main_v0 m c = scaleArr m c := by
  unfold Value.reg_main_v0
  refine (dats m 0 c).arrAt_eq_of_covers 2 _ (by decide +kernel) fun t hf y => ?_
  blk_simp
  rw [after0_2, ref_iblk0, ref_iblk1]
  unfold out0_2 scaleArr
  rw [View.canon_cons_unit_lit _ _ _ (by decide), View.ld_unit_lit _ _ (by decide), View.ld_unit_lit _ _ (by decide)]
  refine congrArg _ (funext fun a => Fin.ext ?_)
  have e : ((((cfg0.win 2).blk t).view.emb y) a : ℕ) = 0 * _ + 1 * (y a).val := rfl
  exact (by omega : (y a).val = ((((cfg0.win 2).blk t).view.emb y) a : ℕ))

end Cert.Proof

end
-- ==== Proof.RefValue.lean ====
/-
  WHAT THE REFERENCE COMPUTES, over the extended reals: the layer, of its arguments as launched.
-/
module

public import proofs.«01_k».proof.Proof.RefField
public import proofs.«01_k».proof.Proof.RefScales

@[expose] public section

noncomputable section

namespace Cert.Proof

open Cert.ReferenceIdeal Cert.ReferenceIdeal.Gen
open Idealize.ShloMosaic Idealize.ShloMosaic.TcCoe

variable (m : (ℓ : Loc nD τ sig) → Buf (Elt Ideal) ℓ) (c : Dev nD)

/-- The layer at every index, of the reference's arguments. -/
def refOut : Buf (Elt Ideal) ((c.tc : Thread nD τ).loc main_v103) := fun (i : S3x2048x36864.Idx) =>
  layer (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (i 0) (i 1) (i 2)

/-- The last stage over the exit contents is the layer. -/
theorem ref_stage : Read.val_main_v103 (F := Ideal) (Value.exitV m c (Proc.devRef .tc main_arg0))
    (Value.exitV m c (Proc.devRef .tc main_arg1)) (Value.exitV m c (Proc.devRef .tc main_arg2))
    (Value.exitV m c (Proc.devRef .tc main_v0)) = refOut m c := by
  rw [Value.exit_main_arg0, Value.exit_main_arg1, Value.exit_main_arg2, Value.exit_main_v0, reg_scales]
  funext i
  exact (congrArg _ (ValueIdx.eq_ix3 i)).trans (ref_layer (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (scaleArr m c)
    (scaleOf_apply (m ((c.tc : Thread nD τ).loc main_arg3)) (m ((c.tc : Thread nD τ).loc main_arg4))) (i 0) (i 1) (i 2))

/-- THE REFERENCE'S VALUE: it ends with the layer in its result and its arguments as they were. -/
theorem reference_value (ρ : Dev nD → PrngReg) :
    θ_run defs (onTc (τ := τ) (main (F := Ideal))) ⟨m, fun _ => 0, ρ⟩ (fun r => ∀ c : Dev nD,
      r.2.mem ((c.tc : Thread nD τ).loc main_v103) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans ((Read.val_main_v103_eq (Value.exitV m c)).trans (ref_stage m c)), (h c).2⟩)
    (Value.run m ρ)

end Cert.Proof

end
-- ==== Proof.lean ====
/-
  THE CLAIM: the kernel, over floats and over the extended reals, and the reference each run from every state, leave their arguments,
  and end without a fault; the rewritten kernel is the kernel; and over the extended reals the kernel and the reference end with the
  same result: both the layer.
-/
module

public import proofs.«01_k».proof.Defs
public import proofs.«01_k».proof.Proof.KernelFrame
public import proofs.«01_k».proof.Proof.KernelValue
public import proofs.«01_k».proof.Proof.RefValue

@[expose] public section

namespace Cert.Proof

open Idealize.ShloMosaic Idealize.ShloMosaic.TcCoe

/-- THE EQUATION: on equal arguments the kernel's layer is the reference's. -/
theorem out_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = argX m c)
    (h1 : m' ((c.tc : Thread ReferenceIdeal.nD ReferenceIdeal.τ).loc ReferenceIdeal.main_arg1) = argQl m c)
    (h2 : m' ((c.tc : Thread ReferenceIdeal.nD ReferenceIdeal.τ).loc ReferenceIdeal.main_arg2) = argQh m c)
    (h3 : m' ((c.tc : Thread ReferenceIdeal.nD ReferenceIdeal.τ).loc ReferenceIdeal.main_arg3) = argSc m c)
    (h4 : m' ((c.tc : Thread ReferenceIdeal.nD ReferenceIdeal.τ).loc ReferenceIdeal.main_arg4) = argD m c) :
    refOut m' c = out m c := by
  unfold refOut out
  rw [h0, h1, h2, h3, h4]

/-- Everything the certificate claims. -/
theorem claim : Cert.Claim :=
  ⟨Cert.Kernel.Gen.facts, Cert.KernelIdeal.Gen.facts, Cert.ReferenceIdeal.Gen.facts,
    fun m ρ _ => kernel_frame m ρ, fun m ρ _ => frame m ρ, fun m ρ _ => Cert.ReferenceIdeal.Gen.frame m ρ, trivial,
    fun m ρ m' ρ' _ h => ⟨fun c => out m c, kernel_value m ρ,
      (θ_run Cert.ReferenceIdeal.defs _ _).mono
        (fun _ hr c => ⟨(hr c).1.trans (out_eq m m' c (h c).1 (h c).2.1 (h c).2.2.1 (h c).2.2.2.1 (h c).2.2.2.2), (hr c).2⟩)
        (reference_value m' ρ')⟩⟩

end Cert.Proof
